-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v21_0) = v1 c
          ∧ r.2.mem ((c.tc : Thread Cert.ReferenceIdeal.nD Cert.ReferenceIdeal.τ).loc Cert.ReferenceIdeal.main_v21_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x768x5120 : Shape := ⟨3, ![12, 768, 5120]⟩
abbrev S5120x2560 : Shape := ⟨2, ![5120, 2560]⟩
abbrev S5120 : Shape := ⟨1, ![5120]⟩
abbrev S9216x5120 : Shape := ⟨2, ![9216, 5120]⟩
abbrev S9216x1 : Shape := ⟨2, ![9216, 1]⟩
abbrev S256x5120 : Shape := ⟨2, ![256, 5120]⟩
abbrev S256x1 : Shape := ⟨2, ![256, 1]⟩
abbrev S32x5120 : Shape := ⟨2, ![32, 5120]⟩
abbrev S16x128 : Shape := ⟨2, ![16, 128]⟩
abbrev S8x128 : Shape := ⟨2, ![8, 128]⟩
abbrev S8 : Shape := ⟨1, ![8]⟩
abbrev S8x1 : Shape := ⟨2, ![8, 1]⟩
abbrev S32x1 : Shape := ⟨2, ![32, 1]⟩
abbrev S1x5120 : Shape := ⟨2, ![1, 5120]⟩
abbrev S5120x5120 : Shape := ⟨2, ![5120, 5120]⟩
abbrev S_ : Shape := ⟨0, ![]⟩
abbrev S128x2560 : Shape := ⟨2, ![128, 2560]⟩
abbrev S256x256 : Shape := ⟨2, ![256, 256]⟩
abbrev S1x256 : Shape := ⟨2, ![1, 256]⟩
abbrev S12x768 : Shape := ⟨2, ![12, 768]⟩

abbrev nBuf : Space → Nat
  | .hbm => 11
  | .vmem => 16
  | .smem => 0
  | _ => 0

abbrev bufTy : (tb : Table) → Fin (tcTables nBuf tb) → BufTy
  | .hbm, ⟨0, _⟩ => ⟨S12x768x5120, .bf16⟩
  | .hbm, ⟨1, _⟩ => ⟨S5120x2560, .i8⟩
  | .hbm, ⟨2, _⟩ => ⟨S5120, .f32⟩
  | .hbm, ⟨3, _⟩ => ⟨S9216x5120, .bf16⟩
  | .hbm, ⟨4, _⟩ => ⟨S9216x5120, .i8⟩
  | .hbm, ⟨5, _⟩ => ⟨S9216x1, .f32⟩
  | .hbm, ⟨6, _⟩ => ⟨S1x5120, .f32⟩
  | .hbm, ⟨7, _⟩ => ⟨S9216x5120, .bf16⟩
  | .hbm, ⟨8, _⟩ => ⟨S12x768x5120, .bf16⟩
  | .hbm, ⟨9, _⟩ => ⟨S12x768x5120, .i8⟩
  | .hbm, ⟨10, _⟩ => ⟨S12x768, .f32⟩
  | .local _ .vmem, ⟨0, _⟩ => ⟨S256x5120, .bf16⟩
  | .local _ .vmem, ⟨1, _⟩ => ⟨S256x5120, .bf16⟩
  | .local _ .vmem, ⟨2, _⟩ => ⟨S256x5120, .i8⟩
  | .local _ .vmem, ⟨3, _⟩ => ⟨S256x5120, .i8⟩
  | .local _ .vmem, ⟨4, _⟩ => ⟨S256x1, .f32⟩
  | .local _ .vmem, ⟨5, _⟩ => ⟨S256x1, .f32⟩
  | .local _ .vmem, ⟨6, _⟩ => ⟨S32x5120, .f32⟩
  | .local _ .vmem, ⟨7, _⟩ => ⟨S256x5120, .i8⟩
  | .local _ .vmem, ⟨8, _⟩ => ⟨S256x5120, .i8⟩
  | .local _ .vmem, ⟨9, _⟩ => ⟨S256x1, .f32⟩
  | .local _ .vmem, ⟨10, _⟩ => ⟨S256x1, .f32⟩
  | .local _ .vmem, ⟨11, _⟩ => ⟨S1x5120, .f32⟩
  | .local _ .vmem, ⟨12, _⟩ => ⟨S256x5120, .bf16⟩
  | .local _ .vmem, ⟨13, _⟩ => ⟨S256x5120, .bf16⟩
  | .local _ .vmem, ⟨14, _⟩ => ⟨S5120x2560, .i8⟩
  | .local _ .vmem, ⟨15, _⟩ => ⟨S5120x5120, .fp8e4m3⟩
  | _, _ => ⟨S12x768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32 : BitVec 32 := 32#32
  let v3 : BitVec 32 := Scalar.muli v2 c32_i32
  v3
def k0_mult2 (k0_t1 : Fin k0_t1_loop.trips) : BitVec 32 :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let c0_i32_4 : BitVec 32 := 0#32
  let v6 : BitVec 32 := Scalar.addi v5 c0_i32_4
  v6
def k0_off1 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v8 : Index := Scalar.indexCast v7
  let c0 : Index := 0#32
  ![v8.toNat, 0]
def k0_off2 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v12 : Index := Scalar.indexCast v7
  let c2560 : Index := 2560#32
  ![v12.toNat, 2560]
def k0_off3 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v19 : Index := Scalar.indexCast v7
  let c128 : Index := 128#32
  ![v19.toNat, 128]
def k0_off4 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v23 : Index := Scalar.indexCast v7
  let c2688 : Index := 2688#32
  ![v23.toNat, 2688]
def k0_off5 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v30 : Index := Scalar.indexCast v7
  let c256 : Index := 256#32
  ![v30.toNat, 256]
def k0_off6 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v34 : Index := Scalar.indexCast v7
  let c2816 : Index := 2816#32
  ![v34.toNat, 2816]
def k0_off7 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v41 : Index := Scalar.indexCast v7
  let c384 : Index := 384#32
  ![v41.toNat, 384]
def k0_off8 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v45 : Index := Scalar.indexCast v7
  let c2944 : Index := 2944#32
  ![v45.toNat, 2944]
def k0_off9 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v52 : Index := Scalar.indexCast v7
  let c512 : Index := 512#32
  ![v52.toNat, 512]
def k0_off10 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v56 : Index := Scalar.indexCast v7
  let c3072 : Index := 3072#32
  ![v56.toNat, 3072]
def k0_off11 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v63 : Index := Scalar.indexCast v7
  let c640 : Index := 640#32
  ![v63.toNat, 640]
def k0_off12 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v67 : Index := Scalar.indexCast v7
  let c3200 : Index := 3200#32
  ![v67.toNat, 3200]
def k0_off13 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v74 : Index := Scalar.indexCast v7
  let c768 : Index := 768#32
  ![v74.toNat, 768]
def k0_off14 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v78 : Index := Scalar.indexCast v7
  let c3328 : Index := 3328#32
  ![v78.toNat, 3328]
def k0_off15 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v85 : Index := Scalar.indexCast v7
  let c896 : Index := 896#32
  ![v85.toNat, 896]
def k0_off16 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v89 : Index := Scalar.indexCast v7
  let c3456 : Index := 3456#32
  ![v89.toNat, 3456]
def k0_off17 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v96 : Index := Scalar.indexCast v7
  let c1024 : Index := 1024#32
  ![v96.toNat, 1024]
def k0_off18 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v100 : Index := Scalar.indexCast v7
  let c3584 : Index := 3584#32
  ![v100.toNat, 3584]
def k0_off19 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v107 : Index := Scalar.indexCast v7
  let c1152 : Index := 1152#32
  ![v107.toNat, 1152]
def k0_off20 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v111 : Index := Scalar.indexCast v7
  let c3712 : Index := 3712#32
  ![v111.toNat, 3712]
def k0_off21 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v118 : Index := Scalar.indexCast v7
  let c1280 : Index := 1280#32
  ![v118.toNat, 1280]
def k0_off22 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v122 : Index := Scalar.indexCast v7
  let c3840 : Index := 3840#32
  ![v122.toNat, 3840]
def k0_off23 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v129 : Index := Scalar.indexCast v7
  let c1408 : Index := 1408#32
  ![v129.toNat, 1408]
def k0_off24 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v133 : Index := Scalar.indexCast v7
  let c3968 : Index := 3968#32
  ![v133.toNat, 3968]
def k0_off25 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v140 : Index := Scalar.indexCast v7
  let c1536 : Index := 1536#32
  ![v140.toNat, 1536]
def k0_off26 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v144 : Index := Scalar.indexCast v7
  let c4096 : Index := 4096#32
  ![v144.toNat, 4096]
def k0_off27 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v151 : Index := Scalar.indexCast v7
  let c1664 : Index := 1664#32
  ![v151.toNat, 1664]
def k0_off28 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v155 : Index := Scalar.indexCast v7
  let c4224 : Index := 4224#32
  ![v155.toNat, 4224]
def k0_off29 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v162 : Index := Scalar.indexCast v7
  let c1792 : Index := 1792#32
  ![v162.toNat, 1792]
def k0_off30 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v166 : Index := Scalar.indexCast v7
  let c4352 : Index := 4352#32
  ![v166.toNat, 4352]
def k0_off31 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v173 : Index := Scalar.indexCast v7
  let c1920 : Index := 1920#32
  ![v173.toNat, 1920]
def k0_off32 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v177 : Index := Scalar.indexCast v7
  let c4480 : Index := 4480#32
  ![v177.toNat, 4480]
def k0_off33 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v184 : Index := Scalar.indexCast v7
  let c2048 : Index := 2048#32
  ![v184.toNat, 2048]
def k0_off34 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v188 : Index := Scalar.indexCast v7
  let c4608 : Index := 4608#32
  ![v188.toNat, 4608]
def k0_off35 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v195 : Index := Scalar.indexCast v7
  let c2176 : Index := 2176#32
  ![v195.toNat, 2176]
def k0_off36 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v199 : Index := Scalar.indexCast v7
  let c4736 : Index := 4736#32
  ![v199.toNat, 4736]
def k0_off37 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v206 : Index := Scalar.indexCast v7
  let c2304 : Index := 2304#32
  ![v206.toNat, 2304]
def k0_off38 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v210 : Index := Scalar.indexCast v7
  let c4864 : Index := 4864#32
  ![v210.toNat, 4864]
def k0_off39 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v217 : Index := Scalar.indexCast v7
  let c2432 : Index := 2432#32
  ![v217.toNat, 2432]
def k0_off40 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_3 : BitVec 32 := 32#32
  let v5 : BitVec 32 := Scalar.muli v2 c32_i32_3
  let v6 : BitVec 32 := Scalar.addi v5 c0_i32_4
  let v7 : BitVec 32 := v6
  let v221 : Index := Scalar.indexCast v7
  let c4992 : Index := 4992#32
  ![v221.toNat, 4992]
def k0_off41 (k0_t1 : Fin k0_t1_loop.trips) (c0_i32_169 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_168 : BitVec 32 := 32#32
  let v1015 : BitVec 32 := Scalar.muli v2 c32_i32_168
  let v1016 : BitVec 32 := Scalar.addi v1015 c0_i32_169
  let v1017 : Index := Scalar.indexCast v1016
  let c0_170 : Index := 0#32
  ![v1017.toNat, 0]
def k0_mult3 (k0_t1 : Fin k0_t1_loop.trips) : BitVec 32 :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_171 : BitVec 32 := 32#32
  let v1019 : BitVec 32 := Scalar.muli v2 c32_i32_171
  let c0_i32_172 : BitVec 32 := 0#32
  let v1020 : BitVec 32 := Scalar.addi v1019 c0_i32_172
  v1020
def k0_mult4 (k0_t1 : Fin k0_t1_loop.trips) : BitVec 32 :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_379 : BitVec 32 := 32#32
  let v2033 : BitVec 32 := Scalar.muli v2 c32_i32_379
  let c16_i32 : BitVec 32 := 16#32
  let v2034 : BitVec 32 := Scalar.addi v2033 c16_i32
  v2034
def k0_mult5 (k0_t1 : Fin k0_t1_loop.trips) : BitVec 32 :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32_586 : BitVec 32 := 32#32
  let v3047 : BitVec 32 := Scalar.muli v2 c32_i32_586
  let c16_i32_587 : BitVec 32 := 16#32
  let v3048 : BitVec 32 := Scalar.addi v3047 c16_i32_587
  v3048
def k0_off42 (k0_t1 : Fin k0_t1_loop.trips) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32 : BitVec 32 := 32#32
  let v3 : BitVec 32 := Scalar.muli v2 c32_i32
  let v4 : BitVec 32 := v3
  let v4061 : Index := Scalar.indexCast v4
  let c0_793 : Index := 0#32
  ![v4061.toNat, 0]
def k0_off43 (k0_t1 : Fin k0_t1_loop.trips) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v1 : BitVec 32 := Scalar.muli arg5 c1_i32_1
  let v2 : BitVec 32 := Scalar.addi c0_i32_2 v1
  let c32_i32 : BitVec 32 := 32#32
  let v3 : BitVec 32 := Scalar.muli v2 c32_i32
  let v4 : BitVec 32 := v3
  let v4075 : Index := Scalar.indexCast v4
  let c0_796 : Index := 0#32
  ![v4075.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![36], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_6 : BitVec 32 := 0#32
  let c40_i32 : BitVec 32 := 40#32
  let v10 : BitVec 32 := Scalar.addi c0_i32_6 c40_i32
  let c1_i32_7 : BitVec 32 := 1#32
  ⟨c0_i32_6, v10, c1_i32_7⟩
def k1_off1 (k1_t1 : Fin k1_t1_loop.trips) : Fin 2 → Nat :=
  let c0_i32_10 : BitVec 32 := 0#32
  let c0_i32_6 : BitVec 32 := 0#32
  let c1_i32_7 : BitVec 32 := 1#32
  let arg9 : BitVec 32 := Scf.iv c0_i32_6 c1_i32_7 k1_t1
  let c1_i32_9 : BitVec 32 := 1#32
  let v11 : BitVec 32 := Scalar.muli arg9 c1_i32_9
  let v12 : BitVec 32 := Scalar.addi c0_i32_10 v11
  let c128_i32 : BitVec 32 := 128#32
  let v13 : BitVec 32 := Scalar.muli v12 c128_i32
  let v14 : Index := Scalar.indexCast v13
  let c0_11 : Index := 0#32
  ![v14.toNat, 0]
def k1_off2 (k1_t1 : Fin k1_t1_loop.trips) : Fin 2 → Nat :=
  let c0_i32_10 : BitVec 32 := 0#32
  let c0_i32_6 : BitVec 32 := 0#32
  let c1_i32_7 : BitVec 32 := 1#32
  let arg9 : BitVec 32 := Scf.iv c0_i32_6 c1_i32_7 k1_t1
  let c1_i32_9 : BitVec 32 := 1#32
  let v11 : BitVec 32 := Scalar.muli arg9 c1_i32_9
  let v12 : BitVec 32 := Scalar.addi c0_i32_10 v11
  let c128_i32 : BitVec 32 := 128#32
  let v13 : BitVec 32 := Scalar.muli v12 c128_i32
  let v35 : Index := Scalar.indexCast v13
  let c0_14 : Index := 0#32
  ![v35.toNat, 0]
def k1_off3 (k1_t1 : Fin k1_t1_loop.trips) : Fin 2 → Nat :=
  let c0_i32_10 : BitVec 32 := 0#32
  let c0_i32_6 : BitVec 32 := 0#32
  let c1_i32_7 : BitVec 32 := 1#32
  let arg9 : BitVec 32 := Scf.iv c0_i32_6 c1_i32_7 k1_t1
  let c1_i32_9 : BitVec 32 := 1#32
  let v11 : BitVec 32 := Scalar.muli arg9 c1_i32_9
  let v12 : BitVec 32 := Scalar.addi c0_i32_10 v11
  let c128_i32 : BitVec 32 := 128#32
  let v13 : BitVec 32 := Scalar.muli v12 c128_i32
  let v41 : Index := Scalar.indexCast v13
  let c2560 : Index := 2560#32
  ![v41.toNat, 2560]
@[reducible] def k1_t2_loop : Scf.Loop 32 :=
  let c0_i32_4 : BitVec 32 := 0#32
  let c20_i32 : BitVec 32 := 20#32
  let v9 : BitVec 32 := Scalar.addi c0_i32_4 c20_i32
  let c1_i32 : BitVec 32 := 1#32
  ⟨c0_i32_4, v9, c1_i32⟩
def k1_mult1 (k1_t2 : Fin k1_t2_loop.trips) : BitVec 32 :=
  let c0_i32_7 : BitVec 32 := 0#32
  let c0_i32_4 : BitVec 32 := 0#32
  let c1_i32 : BitVec 32 := 1#32
  let arg9 : BitVec 32 := Scf.iv c0_i32_4 c1_i32 k1_t2
  let c1_i32_6 : BitVec 32 := 1#32
  let v10 : BitVec 32 := Scalar.muli arg9 c1_i32_6
  let v11 : BitVec 32 := Scalar.addi c0_i32_7 v10
  let c256_i32 : BitVec 32 := 256#32
  let v12 : BitVec 32 := Scalar.muli v11 c256_i32
  v12
def k1_off4 (k1_t2 : Fin k1_t2_loop.trips) : Fin 2 → Nat :=
  let c0_i32_7 : BitVec 32 := 0#32
  let c0_i32_4 : BitVec 32 := 0#32
  let c1_i32 : BitVec 32 := 1#32
  let arg9 : BitVec 32 := Scf.iv c0_i32_4 c1_i32 k1_t2
  let c1_i32_6 : BitVec 32 := 1#32
  let v10 : BitVec 32 := Scalar.muli arg9 c1_i32_6
  let v11 : BitVec 32 := Scalar.addi c0_i32_7 v10
  let c256_i32 : BitVec 32 := 256#32
  let v12 : BitVec 32 := Scalar.muli v11 c256_i32
  let v13 : BitVec 32 := v12
  let v14 : Index := Scalar.indexCast v13
  let c0_8 : Index := 0#32
  ![v14.toNat, 0]
def k1_off5 (k1_t2 : Fin k1_t2_loop.trips) : Fin 2 → Nat :=
  let c0_9 : Index := 0#32
  let c0_i32_7 : BitVec 32 := 0#32
  let c0_i32_4 : BitVec 32 := 0#32
  let c1_i32 : BitVec 32 := 1#32
  let arg9 : BitVec 32 := Scf.iv c0_i32_4 c1_i32 k1_t2
  let c1_i32_6 : BitVec 32 := 1#32
  let v10 : BitVec 32 := Scalar.muli arg9 c1_i32_6
  let v11 : BitVec 32 := Scalar.addi c0_i32_7 v10
  let c256_i32 : BitVec 32 := 256#32
  let v12 : BitVec 32 := Scalar.muli v11 c256_i32
  let v13 : BitVec 32 := v12
  let v19 : Index := Scalar.indexCast v13
  ![0, v19.toNat]
def k1_off6 (k1_t2 : Fin k1_t2_loop.trips) : Fin 2 → Nat :=
  let c0_10 : Index := 0#32
  let c0_i32_7 : BitVec 32 := 0#32
  let c0_i32_4 : BitVec 32 := 0#32
  let c1_i32 : BitVec 32 := 1#32
  let arg9 : BitVec 32 := Scf.iv c0_i32_4 c1_i32 k1_t2
  let c1_i32_6 : BitVec 32 := 1#32
  let v10 : BitVec 32 := Scalar.muli arg9 c1_i32_6
  let v11 : BitVec 32 := Scalar.addi c0_i32_7 v10
  let c256_i32 : BitVec 32 := 256#32
  let v12 : BitVec 32 := Scalar.muli v11 c256_i32
  let v13 : BitVec 32 := v12
  let v25 : Index := Scalar.indexCast v13
  ![0, v25.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x5120 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x5120 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x5120 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S12x768x5120 : Shape := ⟨3, ![12, 768, 5120]⟩
abbrev S5120x2560 : Shape := ⟨2, ![5120, 2560]⟩
abbrev S5120 : Shape := ⟨1, ![5120]⟩
abbrev S40x40 : Shape := ⟨2, ![40, 40]⟩
abbrev S12x768x40x128 : Shape := ⟨4, ![12, 768, 40, 128]⟩
abbrev S40x12x768x128 : Shape := ⟨4, ![40, 12, 768, 128]⟩
abbrev S_ : Shape := ⟨0, ![]⟩
abbrev S12x768 : Shape := ⟨2, ![12, 768]⟩
abbrev S12x768x1 : Shape := ⟨3, ![12, 768, 1]⟩
abbrev S12x768x2560 : Shape := ⟨3, ![12, 768, 2560]⟩
abbrev S1x1x5120 : Shape := ⟨3, ![1, 1, 5120]⟩

abbrev nBuf : Space → Nat
  | .hbm => 81
  | .vmem => 0
  | .smem => 0
  | _ => 0

abbrev bufTy : (tb : Table) → Fin (tcTables nBuf tb) → BufTy
  | .hbm, ⟨0, _⟩ => ⟨S12x768x5120, .bf16⟩
  | .hbm, ⟨1, _⟩ => ⟨S5120x2560, .i8⟩
  | .hbm, ⟨2, _⟩ => ⟨S5120, .f32⟩
  | .hbm, ⟨3, _⟩ => ⟨S40x40, .f32⟩
  | .hbm, ⟨4, _⟩ => ⟨S12x768x40x128, .bf16⟩
  | .hbm, ⟨5, _⟩ => ⟨S12x768x40x128, .f32⟩
  | .hbm, ⟨6, _⟩ => ⟨S40x12x768x128, .f32⟩
  | .hbm, ⟨7, _⟩ => ⟨S12x768x40x128, .f32⟩
  | .hbm, ⟨8, _⟩ => ⟨S_, .f32⟩
  | .hbm, ⟨9, _⟩ => ⟨S12x768x40x128, .f32⟩
  | .hbm, ⟨10, _⟩ => ⟨S12x768x40x128, .f32⟩
  | .hbm, ⟨11, _⟩ => ⟨S12x768x5120, .f32⟩
  | .hbm, ⟨12, _⟩ => ⟨S12x768x5120, .f32⟩
  | .hbm, ⟨13, _⟩ => ⟨S_, .f32⟩
  | .hbm, ⟨14, _⟩ => ⟨S12x768, .f32⟩
  | .hbm, ⟨15, _⟩ => ⟨S_, .f32⟩
  | .hbm, ⟨16, _⟩ => ⟨S12x768, .f32⟩
  | .hbm, ⟨17, _⟩ => ⟨S12x768, .i1⟩
  | .hbm, ⟨18, _⟩ => ⟨S_, .f32⟩
  | .hbm, ⟨19, _⟩ => ⟨S12x768, .f32⟩
  | .hbm, ⟨20, _⟩ => ⟨S12x768, .f32⟩
  | .hbm, ⟨21, _⟩ => ⟨S_, .f32⟩
  | .hbm, ⟨22, _⟩ => ⟨S12x768, .f32⟩
  | .hbm, ⟨23, _⟩ => ⟨S12x768, .f32⟩
  | .hbm, ⟨24, _⟩ => ⟨S12x768x1, .f32⟩
  | .hbm, ⟨25, _⟩ => ⟨S12x768x5120, .f32⟩
  | .hbm, ⟨26, _⟩ => ⟨S12x768x5120, .f32⟩
  | .hbm, ⟨27, _⟩ => ⟨S12x768x5120, .f32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S12x768x5120, .f32⟩
  | .hbm, ⟨32, _⟩ => ⟨S12x768x5120, .f32⟩
  | .hbm, ⟨33, _⟩ => ⟨S_, .f32⟩
  | .hbm, ⟨34, _⟩ => ⟨S12x768x5120, .f32⟩
  | .hbm, ⟨35, _⟩ => ⟨S12x768x5120, .f32⟩
  | .hbm, ⟨36, _⟩ => ⟨S12x768x5120, .i32⟩
  | .hbm, ⟨37, _⟩ => ⟨S12x768x5120, .i8⟩
  | .hbm, ⟨38, _⟩ => ⟨S12x768x5120, .i8⟩
  | .hbm, ⟨39, _⟩ => ⟨S12x768, .f32⟩
  | .hbm, ⟨40, _⟩ => ⟨S5120x2560, .i32⟩
  | .hbm, ⟨41, _⟩ => ⟨S_, .i32⟩
  | .hbm, ⟨42, _⟩ => ⟨S5120x2560, .i32⟩
  | .hbm, ⟨43, _⟩ => ⟨S5120x2560, .i32⟩
  | .hbm, ⟨44, _⟩ => ⟨S_, .i32⟩
  | .hbm, ⟨45, _⟩ => ⟨S5120x2560, .i32⟩
  | .hbm, ⟨46, _⟩ => ⟨S5120x2560, .i32⟩
  | .hbm, ⟨47, _⟩ => ⟨S_, .i32⟩
  | .hbm, ⟨48, _⟩ => ⟨S5120x2560, .i32⟩
  | .hbm, ⟨49, _⟩ => ⟨S5120x2560, .i1⟩
  | .hbm, ⟨50, _⟩ => ⟨S5120x2560, .i32⟩
  | .hbm, ⟨51, _⟩ => ⟨S_, .i32⟩
  | .hbm, ⟨52, _⟩ => ⟨S5120x2560, .i32⟩
  | .hbm, ⟨53, _⟩ => ⟨S5120x2560, .i32⟩
  | .hbm, ⟨54, _⟩ => ⟨S5120x2560, .i32⟩
  | .hbm, ⟨55, _⟩ => ⟨S5120x2560, .i32⟩
  | .hbm, ⟨56, _⟩ => ⟨S5120x2560, .bf16⟩
  | .hbm, ⟨57, _⟩ => ⟨S_, .i32⟩
  | .hbm, ⟨58, _⟩ => ⟨S5120x2560, .i32⟩
  | .hbm, ⟨59, _⟩ => ⟨S5120x2560, .i1⟩
  | .hbm, ⟨60, _⟩ => ⟨S5120x2560, .i32⟩
  | .hbm, ⟨61, _⟩ => ⟨S_, .i32⟩
  | .hbm, ⟨62, _⟩ => ⟨S5120x2560, .i32⟩
  | .hbm, ⟨63, _⟩ => ⟨S5120x2560, .i32⟩
  | .hbm, ⟨64, _⟩ => ⟨S5120x2560, .i32⟩
  | .hbm, ⟨65, _⟩ => ⟨S5120x2560, .i32⟩
  | .hbm, ⟨66, _⟩ => ⟨S5120x2560, .bf16⟩
  | .hbm, ⟨67, _⟩ => ⟨S12x768x5120, .i32⟩
  | .hbm, ⟨68, _⟩ => ⟨S12x768x5120, .bf16⟩
  | .hbm, ⟨69, _⟩ => ⟨S12x768x2560, .bf16⟩
  | .hbm, ⟨70, _⟩ => ⟨S12x768x5120, .f32⟩
  | .hbm, ⟨71, _⟩ => ⟨S12x768x2560, .bf16⟩
  | .hbm, ⟨72, _⟩ => ⟨S12x768x5120, .f32⟩
  | .hbm, ⟨73, _⟩ => ⟨S12x768x5120, .f32⟩
  | .hbm, ⟨74, _⟩ => ⟨S12x768x1, .f32⟩
  | .hbm, ⟨75, _⟩ => ⟨S12x768x5120, .f32⟩
  | .hbm, ⟨76, _⟩ => ⟨S12x768x5120, .f32⟩
  | .hbm, ⟨77, _⟩ => ⟨S1x1x5120, .f32⟩
  | .hbm, ⟨78, _⟩ => ⟨S12x768x5120, .f32⟩
  | .hbm, ⟨79, _⟩ => ⟨S12x768x5120, .f32⟩
  | .hbm, ⟨80, _⟩ => ⟨S12x768x5120, .bf16⟩
  | _, _ => ⟨S12x768x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_c_5 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_c_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Proof.Twin.lean ====
/-
  The program at machine floats and the program at ideal values are one text: the two printed modules name the same
  signature, the same pipelines and the same bodies, and so are equal definition by definition. What is proved once,
  for every interpretation of the floats, about the second is therefore a fact about the first.
-/
module

public import proofs.«01_k».proof.Kernel
public import proofs.«01_k».proof.KernelIdeal

@[expose] public section

set_option maxRecDepth 100000
set_option maxHeartbeats 0

namespace Cert.Hand

open Idealize.ShloMosaic Idealize.ShloMosaic.TcCoe

variable {F : FTy → Type} [FloatOps F] [Cert.Kernel.Facts] [Cert.KernelIdeal.Facts]

theorem main_eq : Cert.Kernel.main (F := F) = Cert.KernelIdeal.main (F := F) := rfl

theorem cc0_eq : @Cert.Kernel.cc0_quant F _ _ = @Cert.KernelIdeal.cc0_quant F _ _ := rfl

theorem defs₀_eq : Cert.Kernel.defs₀ (F := F) = Cert.KernelIdeal.defs₀ (F := F) := by
  delta Cert.Kernel.defs₀ Cert.KernelIdeal.defs₀
  refine congrArg (Defs.onTc (Λ := Cert.KernelIdeal.Λ₀)) (funext fun l => funext fun a => ?_)
  match l, a with
  | 0, (t, s) => exact congrFun (congrFun (congrFun (congrFun (congrFun (congrFun (congrFun (congrFun (congrFun cc0_eq _) _) _) _) _) _) _) _) _
  | 1, (t, s) => rfl

theorem defs_eq : Cert.Kernel.defs (F := F) = Cert.KernelIdeal.defs (F := F) := by
  delta Cert.Kernel.defs Cert.KernelIdeal.defs
  exact congrArg (Pipeline.defs (Cert.KernelIdeal.pcfgs (F := F))) defs₀_eq

end Cert.Hand
-- ==== Proof.Base.lean ====
/-
  What the hand modules share: the resource algebra of the launch (the pipeline library's, beside the counters that the
  weight transfer of the second call takes its tokens from), and buffers held whole.
-/
module

public import proofs.«01_k».proof.Proof.Gen.KernelIdeal.Skeleton
public import Idealize.ShloMosaic.Lib.Tactic
public import Idealize.ShloMosaic.Lib.Exec
public import Idealize.ShloMosaic.Lib.WritesUnit
public import Idealize.ShloMosaic.Lib.Pipeline.Kit

@[expose] public section

noncomputable section

namespace Cert.Hand

open Cert.KernelIdeal Cert.KernelIdeal.Gen
open Idealize.ShloMosaic Idealize.ShloMosaic.TcCoe
open Idealize.SL Idealize.SL.RA Idealize.SL.BI
open Idealize.ShloMosaic.Rounds

/-- The resource algebra: the pipelines' rounds beside the transfers' counters. -/
abbrev UU : Type := UR sig nD τ × Counters

/-- A memref's contents, and its elements held on a core at given contents. -/
abbrev Cts (F : FTy → Type) {sp : Space} {S : Shape} {e : EltTy} (M : Memref sig .tc sp S e) : Type :=
  BufTy.Contents (Elt F) M.view.ty

abbrev at_ {F : FTy → Type} (c : Dev nD) {sp : Space} {S : Shape} {e : EltTy} (M : Memref sig .tc sp S e) (f : Cts F M) :
    sProp (MT nD τ sig Unit (Elt F) ℕ UU ℕ) :=
  M.view.loc (c : Thread nD τ) ↦[M.view.set]{fullShare} f

theorem at_whole {F : FTy → Type} (c : Dev nD) (b : Ref sig .tc) (f : b.ty.Contents (Elt F)) :
    at_ (F := F) c (Memref.whole b) f = (((c : Thread nD τ).loc b) ↦{fullShare} f : sProp (MT nD τ sig Unit (Elt F) ℕ UU ℕ)) := by
  show (((c : Thread nD τ).loc b) ↦[(View.whole b).set]{fullShare} f : sProp (MT nD τ sig Unit (Elt F) ℕ UU ℕ)) = _
  rw [View.set_whole]

end Cert.Hand

end
-- ==== Proof.QuantTrip.lean ====
/-
  One trip of the rotate-and-quantise loop (32 rows), run once at a symbolic trip: the pieces it writes into the codes,
  the scales and the scratch block.
-/
module

public import proofs.«01_k».proof.Proof.Base

@[expose] public section

set_option maxRecDepth 8192
set_option maxHeartbeats 4000000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The four operands of the rotate-and-quantise body, held on a core. -/
abbrev QHeld (c : Dev nD) (arg1 : Memref sig .tc .vmem S256x5120 .bf16) (arg2 : Memref sig .tc .vmem S256x5120 .i8) (arg3 : Memref sig .tc .vmem S256x1 .f32) (arg4 : Memref sig .tc .vmem S32x5120 .f32)
    (X : Cts F arg1) (f2 : Cts F arg2) (f3 : Cts F arg3) (f4 : Cts F arg4) : sProp 𝕄 :=
  iprop(at_ c arg1 X ∗ at_ c arg2 f2 ∗ at_ c arg3 f3 ∗ at_ c arg4 f4)

/-- One trip, run at a symbolic `k`. -/
def qtrip (𝒱 : Variants) (c : Dev nD) (bd : Option 𝒱.V) (i : grid0.Coords) (arg1 : Memref sig .tc .vmem S256x5120 .bf16) (harg1 : arg1.IsWhole) (arg2 : Memref sig .tc .vmem S256x5120 .i8) (harg2 : arg2.IsWhole) (arg3 : Memref sig .tc .vmem S256x1 .f32) (harg3 : arg3.IsWhole) (arg4 : Memref sig .tc .vmem S32x5120 .f32) (harg4 : arg4.IsWhole) (X : Cts F arg1) (k : Fin k0_t1_loop.trips) :
    Σ' (L2 : Cts F arg2 → Cts F arg3 → Cts F arg4 → List (View.Piece (Elt F) S256x5120 .i8)) (L3 : Cts F arg2 → Cts F arg3 → Cts F arg4 → List (View.Piece (Elt F) S256x1 .f32)),
      { L4 : Cts F arg2 → Cts F arg3 → Cts F arg4 → List (View.Piece (Elt F) S32x5120 .f32) //
        ∀ (E : Set ℕ) (f2 : Cts F arg2) (f3 : Cts F arg3) (f4 : Cts F arg4),
          QHeld (F := F) c arg1 arg2 arg3 arg4 X f2 f3 f4
          ⊢ wp frame (wpE (defs₀ (F := F)) 𝒱 (c : Thread nD τ) bd) E (k0_t1_body (F := F) i arg1 harg1 arg2 harg2 arg3 harg3 arg4 harg4 k PUnit.unit)
              (fun _ => QHeld (F := F) c arg1 arg2 arg3 arg4 X (arg2.view.writes (Elt F) f2 (L2 f2 f3 f4)) (arg3.view.writes (Elt F) f3 (L3 f2 f3 f4)) (arg4.view.writes (Elt F) f4 (L4 f2 f3 f4))) } := by
  have hk : k.val < 8 := Nat.lt_of_lt_of_le k.isLt k0_t1_abs.2.1
  refine ⟨?_, ?_, ?_, fun E f2 f3 f4 => ?run⟩
  case run =>
    unfold k0_t1_body
    iintro ⟨HR_arg1, HW_arg2, HW_arg3, HW_arg4⟩
    sl_exec
    sl_step
    sl_close

end Cert.Hand

end
-- ==== Proof.QuantTree.lean ====
/-
  The rotation of one row block as the kernel computes it: each of the forty output heads is a fixed tree of additions
  and subtractions over the forty input heads, the same for every row and column. Here are the trees, and the proof that
  the pieces one trip writes into its scratch block are the trees' values.
-/
module

public import proofs.«01_k».proof.Proof.QuantTrip

@[expose] public section

set_option maxRecDepth 8192
set_option maxHeartbeats 4000000

noncomputable section

namespace Cert.Hand

open Cert.KernelIdeal Cert.KernelIdeal.Gen
open Idealize.ShloMosaic Idealize.ShloMosaic.TcCoe

/-- The squares modulo 19. -/
def psq (t : Nat) : Bool := [1, 4, 5, 6, 7, 9, 11, 16, 17].elem t

/-- Whether the entry `(i, j)` of the order-20 Paley matrix is `+1` (else it is `-1`). -/
def psgn (i j : Nat) : Bool := Nat.beq i 0 || (!(Nat.beq j 0) && (Nat.beq i j || psq ((j + 19 - i) % 19)))

/-- A tree of additions and subtractions over numbered leaves. -/
inductive RT where
  | leaf (i : Nat)
  | add (a b : RT)
  | sub (a b : RT)

/-- A node's operation by its sign. -/
def RT.node (s : Bool) (a b : RT) : RT := bif s then .add a b else .sub a b

/-- A tree's value. -/
def RT.eval {α : Type} (ad sb : α → α → α) (u : Nat → α) : RT → α
  | .leaf i => u i
  | .add a b => ad (a.eval ad sb u) (b.eval ad sb u)
  | .sub a b => sb (a.eval ad sb u) (b.eval ad sb u)

/-- Four consecutive leaves combined for output `j`, up to the first one's sign. -/
def rot4 (g j : Nat) : RT :=
  .node (psgn g j == psgn (g + 2) j)
    (.node (psgn g j == psgn (g + 1) j) (.leaf g) (.leaf (g + 1)))
    (.node (psgn (g + 2) j == psgn (g + 3) j) (.leaf (g + 2)) (.leaf (g + 3)))

/-- Output `j` of the order-20 rotation: the five groups added up, each with its first leaf's sign. -/
def rotT (j : Nat) : RT :=
  .node (psgn 16 j) (.node (psgn 12 j) (.node (psgn 8 j) (.node (psgn 4 j) (rot4 0 j) (rot4 4 j)) (rot4 8 j)) (rot4 12 j)) (rot4 16 j)

variable {F : FTy → Type} [FloatOps F]

/-- The first row a trip's load reads, at the load's row constant. -/
def rowE (k : Fin k0_t1_loop.trips) (c : BitVec 32) : Nat :=
  (Scalar.indexCast (Scalar.addi (Scalar.muli (Scalar.addi 0#32 (Scalar.muli (Scf.iv 0#32 1#32 k) 1#32)) 32#32) c)).toNat

theorem rowE_eq (k : Fin k0_t1_loop.trips) (r : Fin 2) : rowE k (BitVec.ofNat 32 (16 * r.val)) = 32 * k.val + 16 * r.val :=
  congrFun (k0_off1_eq k r) 0

theorem rowE_q (k : Fin k0_t1_loop.trips) (q : Nat) : rowE k (BitVec.ofNat 32 (16 * (q % 4 / 2))) = 32 * k.val + 16 * (q % 4 / 2) :=
  rowE_eq k ⟨q % 4 / 2, by omega⟩

theorem trips_lt (k : Fin k0_t1_loop.trips) : k.val < 8 := Nat.lt_of_lt_of_le k.isLt k0_t1_abs.2.1

theorem ld_inb (k : Fin k0_t1_loop.trips) (q h : Nat) :
    ∀ a, (![rowE k (BitVec.ofNat 32 (16 * (q % 4 / 2))), 128 * (h % 40)] : Fin 2 → Nat) a + S16x128.size a ≤ S256x5120.size a := by
  have := trips_lt k
  refine Fin.forall_fin_two.mpr ⟨?_, ?_⟩
  · show rowE k _ + 16 ≤ 256
    rw [rowE_q]; omega
  · show 128 * (h % 40) + 128 ≤ 5120
    omega

theorem sl_slices (q : Nat) : S16x128.Slices ![8 * (q % 2), 0] S8x128 :=
  ⟨rfl, Fin.forall_fin_two.mpr ⟨by show 8 * (q % 2) + 8 ≤ 16; omega, by show 0 + 128 ≤ 128; omega⟩⟩

/-- Rows `8q … 8q+7` of the trip, head `h` of the block `x`, widened. -/
def lfV (x : Vec F S256x5120 .bf16) (k : Fin k0_t1_loop.trips) (q h : Nat) : FVec F S8x128 .f32 :=
  extractStridedSlice S8x128 ![8 * (q % 2), 0]
    (extf .f32 (shapeCast S16x128 (fun i => x
      ((Rect.unit (s := S256x5120) ![rowE k (BitVec.ofNat 32 (16 * (q % 4 / 2))), 128 * (h % 40)] S16x128.size (ld_inb k q h)).toLoadRect.idx i) : Vec F S16x128 .bf16)
      shapeCasts_S16x128_S16x128 : FVec F S16x128 .bf16) bitsLt_bf16_f32) (sl_slices q)

/-- The first stage: head `i` plus (or, in the second half, minus) head `i + 20`. -/
def uV (x : Vec F S256x5120 .bf16) (k : Fin k0_t1_loop.trips) (q : Nat) (b : Bool) (i : Nat) : FVec F S8x128 .f32 :=
  bif b then subf (lfV x k q i) (lfV x k q (i + 20)) else addf (lfV x k q i) (lfV x k q (i + 20))

/-- The rotation's normalisation, as the kernel spells it. -/
def normF : F .f32 := Scalar.ofBits .f32 0x3E21E89B#32

/-- Output head `g` of rows `8q … 8q+7`. -/
def zV (x : Vec F S256x5120 .bf16) (k : Fin k0_t1_loop.trips) (q g : Nat) : FVec F S8x128 .f32 :=
  mulf (RT.eval addf subf (uV x k q (Nat.ble 20 g)) (rotT (g % 20))) (broadcast S8x128 normF)

theorem pc_inb (q g : Nat) : ∀ a, (![8 * (q % 4), 128 * (g % 40)] : Fin 2 → Nat) a + S8x128.size a ≤ S32x5120.size a :=
  Fin.forall_fin_two.mpr ⟨by show 8 * (q % 4) + 8 ≤ 32; omega, by show 128 * (g % 40) + 128 ≤ 5120; omega⟩

/-- The `n`th piece the trip writes into the scratch block: rows `8(n / 40) …`, head `n % 40`. -/
def zPiece (x : Vec F S256x5120 .bf16) (k : Fin k0_t1_loop.trips) (n : Nat) : View.Piece (Elt F) S32x5120 .f32 :=
  ⟨Rect.unit ![8 * (n / 40 % 4), 128 * (n % 40)] S8x128.size (pc_inb (n / 40) n), shapeCast S8x128 (zV x k (n / 40) (n % 40)) shapeCasts_S8x128_S8x128⟩

/-- The lane-wise maximum of the forty heads' magnitudes. -/
def amaxV (x : Vec F S256x5120 .bf16) (k : Fin k0_t1_loop.trips) (q : Nat) : FVec F S8x128 .f32 :=
  (List.range 39).foldl (fun a g => maximumf a (absf (zV x k q (g + 1)))) (absf (zV x k q 0))

/-- A row's largest magnitude, by rows of eight. -/
def aV (x : Vec F S256x5120 .bf16) (k : Fin k0_t1_loop.trips) (q : Nat) : FVec F S8x1 .f32 :=
  shapeCast S8x1 (multiReduction .maximumf [1] S8 (amaxV x k q) 0xFF800000#32 reduces_S8x128_S8 (.inl rfl) rfl) shapeCasts_S8_S8x1

/-- The rows' scales. -/
def sV (x : Vec F S256x5120 .bf16) (k : Fin k0_t1_loop.trips) (q : Nat) : FVec F S8x1 .f32 :=
  select (cmpf .oeq (aV x k q) (broadcast S8x1 (Scalar.ofBits .f32 0x00000000#32))) (broadcast S8x1 (Scalar.ofBits .f32 0x3F800000#32))
    (divf (aV x k q) (broadcast S8x1 (Scalar.ofBits .f32 0x40E00000#32)))

theorem off41_q (k : Fin k0_t1_loop.trips) (q : Nat) : k0_off41 k (BitVec.ofNat 32 (8 * (q % 4))) = ![32 * k.val + 8 * (q % 4), 0] :=
  k0_off41_eq k ⟨q % 4, by omega⟩

theorem sc_inb (k : Fin k0_t1_loop.trips) (q : Nat) :
    ∀ a, k0_off41 k (BitVec.ofNat 32 (8 * (q % 4))) a + S8x1.size a ≤ S256x1.size a := by
  have := trips_lt k
  rw [off41_q]
  exact Fin.forall_fin_two.mpr ⟨by show 32 * k.val + 8 * (q % 4) + 8 ≤ 256; omega, by show 0 + 1 ≤ 1; omega⟩

/-- The `q`th piece the trip writes into the scales. -/
def sPiece (x : Vec F S256x5120 .bf16) (k : Fin k0_t1_loop.trips) (q : Nat) : View.Piece (Elt F) S256x1 .f32 :=
  ⟨Rect.unit (k0_off41 k (BitVec.ofNat 32 (8 * (q % 4)))) S8x1.size (sc_inb k q), sV x k q⟩

/-- The trip's pieces in the scratch block are the trees' values. -/
theorem zPieces (arg1 : Memref sig .tc .vmem S256x5120 .bf16) (X : Cts F arg1) (k : Fin k0_t1_loop.trips) :
    qtrip.sl.HW_arg4_160 arg1 X k = ((List.range 160).reverse.map (zPiece (arg1.view.read (Elt F) X) k)) := rfl

/-- The trip's pieces in the scales. -/
theorem sPieces (arg1 : Memref sig .tc .vmem S256x5120 .bf16) (X : Cts F arg1) (k : Fin k0_t1_loop.trips) :
    qtrip.sl.HW_arg3_4 arg1 X k = ((List.range 4).reverse.map (sPiece (arg1.view.read (Elt F) X) k)) := rfl

end Cert.Hand

end
-- ==== Proof.QuantRun.lean ====
/-
  The rotate-and-quantise body run whole, for every interpretation of the floats: the block of codes and the block of
  scales it leaves, as functions of the block it reads.
-/
module

public import proofs.«01_k».proof.Proof.QuantTree
public import Idealize.ShloMosaic.Lib.ValueIdxCore
public import Idealize.ShloMosaic.Lib.Pipeline.Value

@[expose] public section

set_option maxRecDepth 8192
set_option maxHeartbeats 4000000

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem trips_eq : k0_t1_loop.trips = 8 := rfl

/-! ## The blocks -/

/-- The rotated rows of a trip. -/
def zB (x : Vec F S256x5120 .bf16) (k : Fin k0_t1_loop.trips) : FVec F S32x5120 .f32 := fun y =>
  zV x k ((y 0).val / 8) ((y 1).val / 128) (ix2 ⟨(y 0).val % 8, Nat.mod_lt _ (by decide)⟩ ⟨(y 1).val % 128, Nat.mod_lt _ (by decide)⟩)

/-- The scales of a trip. -/
def sB (x : Vec F S256x5120 .bf16) (k : Fin k0_t1_loop.trips) : FVec F S32x1 .f32 := fun y =>
  sV x k ((y 0).val / 8) (ix2 ⟨(y 0).val % 8, Nat.mod_lt _ (by decide)⟩ 0)

/-- The codes of a trip. -/
def cB (x : Vec F S256x5120 .bf16) (k : Fin k0_t1_loop.trips) : IVec S32x5120 8 :=
  k0_pay1 (k0_pay1428 (sB x k) (zB x k)) 4294967289#32 7#32

/-- A row's trip. -/
def tripOf {n : Nat} (y : (⟨2, ![256, n]⟩ : Shape).Idx) : Fin k0_t1_loop.trips :=
  ⟨(y 0).val / 32, by rw [trips_eq]; have := idx2_lt0 y; omega⟩

/-- The block of scales. -/
def scaleBlk (x : Vec F S256x5120 .bf16) : Vec F S256x1 .f32 := fun y =>
  sB x (tripOf y) (ix2 ⟨(y 0).val % 32, Nat.mod_lt _ (by decide)⟩ 0)

/-- The block of codes. -/
def codesBlk (x : Vec F S256x5120 .bf16) : Vec F S256x5120 .i8 := fun y =>
  cB x (tripOf y) (ix2 ⟨(y 0).val % 32, Nat.mod_lt _ (by decide)⟩ (y 1))

/-! ## What a trip's pieces leave -/

theorem zPiece_eq (x : Vec F S256x5120 .bf16) (k : Fin k0_t1_loop.trips) (n : Nat) (hn : n < 160) :
    ∀ j : (zPiece x k n).1.shape.Idx, (zPiece x k n).2 j = zB x k ((zPiece x k n).1.emb j) := by
  intro (j : S8x128.Idx)
  have h0 : (((zPiece x k n).1.emb j : S32x5120.Idx) 0).val = 8 * (n / 40 % 4) + 1 * (j 0).val := rfl
  have h1 : (((zPiece x k n).1.emb j : S32x5120.Idx) 1).val = 128 * (n % 40) + 1 * (j 1).val := rfl
  have l0 : (j 0).val < 8 := (j 0).isLt
  have l1 : (j 1).val < 128 := (j 1).isLt
  have e0 : (((zPiece x k n).1.emb j : S32x5120.Idx) 0).val / 8 = n / 40 := by rw [h0]; omega
  have e1 : (((zPiece x k n).1.emb j : S32x5120.Idx) 1).val / 128 = n % 40 := by rw [h1]; omega
  show shapeCast S8x128 (zV x k (n / 40) (n % 40)) shapeCasts_S8x128_S8x128 j = _
  rw [shapeCast_self]
  unfold zB
  rw [e0, e1]
  refine congrArg _ (funext fun a => Fin.ext ?_)
  match a with
  | ⟨0, _⟩ => show (j 0).val = (((zPiece x k n).1.emb j : S32x5120.Idx) 0).val % 8; rw [h0]; omega
  | ⟨1, _⟩ => show (j 1).val = (((zPiece x k n).1.emb j : S32x5120.Idx) 1).val % 128; rw [h1]; omega

theorem sPiece_eq (x : Vec F S256x5120 .bf16) (k : Fin k0_t1_loop.trips) (q : Nat) (hq : q < 4) :
    ∀ j : (sPiece x k q).1.shape.Idx, (sPiece x k q).2 j = scaleBlk x ((sPiece x k q).1.emb j) := by
  intro (j : S8x1.Idx)
  have hk := trips_lt k
  have h0 : (((sPiece x k q).1.emb j : S256x1.Idx) 0).val = 32 * k.val + 8 * (q % 4) + 1 * (j 0).val :=
    congrArg (· + 1 * (j 0).val) (congrFun (off41_q k q) 0)
  have l0 : (j 0).val < 8 := (j 0).isLt
  have l1 : (j 1).val < 1 := (j 1).isLt
  unfold scaleBlk sB
  have et : tripOf ((sPiece x k q).1.emb j : S256x1.Idx) = k :=
    Fin.ext (by show (((sPiece x k q).1.emb j : S256x1.Idx) 0).val / 32 = k.val; rw [h0]; omega)
  have e0 : (((sPiece x k q).1.emb j : S256x1.Idx) 0).val % 32 / 8 = q := by rw [h0]; omega
  show sV x k q j = sV x (tripOf ((sPiece x k q).1.emb j : S256x1.Idx)) ((((sPiece x k q).1.emb j : S256x1.Idx) 0).val % 32 / 8)
    (ix2 ⟨(((sPiece x k q).1.emb j : S256x1.Idx) 0).val % 32 % 8, _⟩ 0)
  rw [et]
  simp only [e0]
  refine congrArg _ (funext fun a => Fin.ext ?_)
  match a with
  | ⟨0, _⟩ => show (j 0).val = (((sPiece x k q).1.emb j : S256x1.Idx) 0).val % 32 % 8; rw [h0]; omega
  | ⟨1, _⟩ => show (j 1).val = 0; omega

theorem mem_rev_map {α : Type} {n : Nat} {f : Nat → α} {p : α} (h : p ∈ ((List.range n).reverse.map f)) : ∃ i, i < n ∧ f i = p := by
  obtain ⟨i, hi, rfl⟩ := List.mem_map.mp h
  exact ⟨i, List.mem_range.mp (List.mem_reverse.mp hi), rfl⟩

theorem rev_map_mem {α : Type} {n : Nat} (f : Nat → α) (i : Nat) (hi : i < n) : f i ∈ ((List.range n).reverse.map f) :=
  List.mem_map.mpr ⟨i, List.mem_reverse.mpr (List.mem_range.mpr hi), rfl⟩

/-- What the trip reads back of its scratch block. -/
theorem v4064_eq (arg1 : Memref sig .tc .vmem S256x5120 .bf16) (arg4 : Memref sig .tc .vmem S32x5120 .f32) (X : Cts F arg1) (k : Fin k0_t1_loop.trips) :
    qtrip.sl.v4064 arg1 arg4 X k = zB (arg1.view.read (Elt F) X) k := by
  unfold qtrip.sl.v4064 View.readCov
  rw [zPieces]
  funext (y : S32x5120.Idx)
  rw [View.readAt_apply]
  have hy : (Rect.unit ![0, 0] S32x5120.size inb_S32x5120_S32x5120_0_0).toLoadRect.idx y = y :=
    funext fun a => Fin.ext (by
      match a with
      | ⟨0, _⟩ => show 0 + 1 * (y 0).val = (y 0).val; omega
      | ⟨1, _⟩ => show 0 + 1 * (y 1).val = (y 1).val; omega)
  rw [hy]
  refine View.read_writes_apply_of_pieces (Val := Elt F) (e := .f32) _ _ (zB (arg1.view.read (Elt F) X) k) _ (fun p hp => ?_) y ?_
  · obtain ⟨n, hn, rfl⟩ := mem_rev_map hp
    exact zPiece_eq _ k n hn
  · have y0 := idx2_lt0 y
    have y1 := idx2_lt1 y
    refine ⟨_, rev_map_mem _ ((y 0).val / 8 * 40 + (y 1).val / 128) (by omega), ?_⟩
    refine (Rect.mem_set_unit (inb := pc_inb _ _)).mpr (Fin.forall_fin_two.mpr ⟨?_, ?_⟩)
    · show 8 * (((y 0).val / 8 * 40 + (y 1).val / 128) / 40 % 4) ≤ (y 0).val ∧ (y 0).val < 8 * (((y 0).val / 8 * 40 + (y 1).val / 128) / 40 % 4) + 8
      omega
    · show 128 * (((y 0).val / 8 * 40 + (y 1).val / 128) % 40) ≤ (y 1).val ∧ (y 1).val < 128 * (((y 0).val / 8 * 40 + (y 1).val / 128) % 40) + 128
      omega

/-- The scales' pieces leave the block of scales on the trip's rows, and nothing elsewhere. -/
theorem read_scales (v : View sig .tc .vmem S256x1 .f32) (f : v.ty.Contents (Elt F)) (x : Vec F S256x5120 .bf16) (k : Fin k0_t1_loop.trips) (y : S256x1.Idx) :
    v.read (Elt F) (v.writes (Elt F) f ((List.range 4).reverse.map (sPiece x k))) y
      = if 32 * k.val ≤ (y 0).val ∧ (y 0).val < 32 * k.val + 32 then scaleBlk x y else v.read (Elt F) f y := by
  have y1 := idx2_lt1 y
  split
  · refine View.read_writes_apply_of_pieces (Val := Elt F) (e := .f32) _ _ (scaleBlk x) _ (fun p hp => ?_) y ?_
    · obtain ⟨n, hn, rfl⟩ := mem_rev_map hp
      exact sPiece_eq _ k n hn
    · refine ⟨_, rev_map_mem _ (((y 0).val - 32 * k.val) / 8) (by omega), ?_⟩
      refine (Rect.mem_set_unit (inb := sc_inb k (((y 0).val - 32 * k.val) / 8))).mpr ?_
      rw [off41_q]
      refine Fin.forall_fin_two.mpr ⟨?_, ?_⟩
      · show 32 * k.val + 8 * (((y 0).val - 32 * k.val) / 8 % 4) ≤ (y 0).val ∧ (y 0).val < 32 * k.val + 8 * (((y 0).val - 32 * k.val) / 8 % 4) + 8
        omega
      · show 0 ≤ (y 1).val ∧ (y 1).val < 0 + 1
        omega
  · refine View.read_writes_apply_of_forall_not_mem _ _ y _ fun p hp => ?_
    obtain ⟨n, hn, rfl⟩ := mem_rev_map hp
    intro hm
    have := (Rect.mem_set_unit (inb := sc_inb k n)).mp hm 0
    rw [off41_q] at this
    have : 32 * k.val + 8 * (n % 4) ≤ (y 0).val ∧ (y 0).val < 32 * k.val + 8 * (n % 4) + 8 := this
    omega

/-- What the trip reads back of its scales. -/
theorem v4062_eq (arg1 : Memref sig .tc .vmem S256x5120 .bf16) (arg3 : Memref sig .tc .vmem S256x1 .f32) (X : Cts F arg1) (k : Fin k0_t1_loop.trips) :
    qtrip.sl.v4062 arg1 arg3 X k = sB (arg1.view.read (Elt F) X) k := by
  unfold qtrip.sl.v4062 View.readCov
  rw [sPieces]
  funext (y : S32x1.Idx)
  have hk := trips_lt k
  have y0 := idx2_lt0 y
  have y1 := idx2_lt1 y
  rw [View.readAt_apply, read_scales]
  have h0 : (((Rect.unit (s := S256x1) (k0_off42 k) S32x1.size (k0_off42_inb k)).toLoadRect.idx y : S256x1.Idx) 0).val = 32 * k.val + 1 * (y 0).val :=
    congrArg (· + 1 * (y 0).val) (congrFun (k0_off42_eq k) 0)
  rw [if_pos (by rw [h0]; omega)]
  unfold scaleBlk
  have et : tripOf ((Rect.unit (s := S256x1) (k0_off42 k) S32x1.size (k0_off42_inb k)).toLoadRect.idx y : S256x1.Idx) = k :=
    Fin.ext (by show (((Rect.unit (s := S256x1) (k0_off42 k) S32x1.size (k0_off42_inb k)).toLoadRect.idx y : S256x1.Idx) 0).val / 32 = k.val; rw [h0]; omega)
  rw [et]
  refine congrArg _ (funext fun a => Fin.ext ?_)
  match a with
  | ⟨0, _⟩ => show (((Rect.unit (s := S256x1) (k0_off42 k) S32x1.size (k0_off42_inb k)).toLoadRect.idx y : S256x1.Idx) 0).val % 32 = (y 0).val; rw [h0]; omega
  | ⟨1, _⟩ => show 0 = (y 1).val; omega

/-- The codes' one piece leaves the block of codes on the trip's rows, and nothing elsewhere. -/
theorem read_codes (v : View sig .tc .vmem S256x5120 .i8) (f : v.ty.Contents (Elt F)) (x : Vec F S256x5120 .bf16) (k : Fin k0_t1_loop.trips)
    (inb : ∀ a, k0_off43 k a + (![32, 5120] : Fin 2 → Nat) a ≤ S256x5120.size a) (y : S256x5120.Idx) :
    v.read (Elt F) (v.writes (Elt F) f [(⟨Rect.unit (s := S256x5120) (k0_off43 k) ![32, 5120] inb, cB x k⟩ : View.Piece (Elt F) S256x5120 .i8)]) y
      = if 32 * k.val ≤ (y 0).val ∧ (y 0).val < 32 * k.val + 32 then codesBlk x y else v.read (Elt F) f y := by
  have hk := trips_lt k
  have y0 := idx2_lt0 y
  have y1 := idx2_lt1 y
  split
  · rename_i h
    rw [View.read_writes_cons_unit_of_mem v f inb (cB x k) [] y
      (ix2 (n0 := 32) (n1 := 5120) ⟨(y 0).val % 32, Nat.mod_lt _ (by decide)⟩ (y 1)) (k0_off43_eq k)
      (Fin.forall_fin_two.mpr ⟨by show (y 0).val = 32 * k.val + (y 0).val % 32; omega, by show (y 1).val = 0 + (y 1).val; omega⟩)]
    have et : tripOf y = k := Fin.ext (by show (y 0).val / 32 = k.val; omega)
    unfold codesBlk
    rw [et]
  · rename_i h
    rw [View.read_writes_cons_unit_of_not_mem v f inb (cB x k) [] y (k0_off43_eq k) 0 (by
      show (y 0).val < 32 * k.val ∨ 32 * k.val + 32 ≤ (y 0).val; omega)]
    rfl

/-! ## The trip and the loop -/

/-- One trip: the codes and scales of its 32 rows written, the rest of both as found. -/
theorem qtrip_run (𝒱 : Variants) (c : Dev nD) (bd : Option 𝒱.V) (i : grid0.Coords) (arg1 : Memref sig .tc .vmem S256x5120 .bf16) (harg1 : arg1.IsWhole) (arg2 : Memref sig .tc .vmem S256x5120 .i8) (harg2 : arg2.IsWhole) (arg3 : Memref sig .tc .vmem S256x1 .f32) (harg3 : arg3.IsWhole) (arg4 : Memref sig .tc .vmem S32x5120 .f32) (harg4 : arg4.IsWhole) (X : Cts F arg1) (k : Fin k0_t1_loop.trips)
    (E : Set ℕ) (f2 : Cts F arg2) (f3 : Cts F arg3) (f4 : Cts F arg4) :
    QHeld (F := F) c arg1 arg2 arg3 arg4 X f2 f3 f4
    ⊢ wp frame (wpE (defs₀ (F := F)) 𝒱 (c : Thread nD τ) bd) E (k0_t1_body (F := F) i arg1 harg1 arg2 harg2 arg3 harg3 arg4 harg4 k PUnit.unit)
        (fun _ => QHeld (F := F) c arg1 arg2 arg3 arg4 X
          (arg2.view.writes (Elt F) f2 [(⟨Rect.unit (s := S256x5120) (k0_off43 k) ![32, 5120] (k0_off43_inb k), cB (arg1.view.read (Elt F) X) k⟩ : View.Piece (Elt F) S256x5120 .i8)])
          (arg3.view.writes (Elt F) f3 ((List.range 4).reverse.map (sPiece (arg1.view.read (Elt F) X) k)))
          (arg4.view.writes (Elt F) f4 (qtrip.sl.HW_arg4_160 arg1 X k))) := by
  have h := (qtrip (F := F) 𝒱 c bd i arg1 harg1 arg2 harg2 arg3 harg3 arg4 harg4 X k).2.2.2 E f2 f3 f4
  unfold qtrip at h
  dsimp only at h
  rw [sPieces] at h
  unfold qtrip.sl.r_801 at h
  rw [v4062_eq, v4064_eq] at h
  unfold cB
  convert h using 5

/-- The loop's invariant: the rows of the trips so far hold their codes and scales. -/
abbrev qinv (c : Dev nD) (arg1 : Memref sig .tc .vmem S256x5120 .bf16) (arg2 : Memref sig .tc .vmem S256x5120 .i8) (arg3 : Memref sig .tc .vmem S256x1 .f32) (arg4 : Memref sig .tc .vmem S32x5120 .f32) (X : Cts F arg1) (k : ℕ) (_u : PUnit) : sProp 𝕄 :=
  iprop(at_ c arg1 X
    ∗ (∃ f, at_ c arg2 f ∗ ⌜∀ y : S256x5120.Idx, (y 0).val < 32 * k → arg2.view.read (Elt F) f y = codesBlk (arg1.view.read (Elt F) X) y⌝)
    ∗ (∃ f, at_ c arg3 f ∗ ⌜∀ y : S256x1.Idx, (y 0).val < 32 * k → arg3.view.read (Elt F) f y = scaleBlk (arg1.view.read (Elt F) X) y⌝)
    ∗ (∃ f, at_ c arg4 f))

set_option warn.classDefReducibility false in
/-- The loop by its invariant. -/
@[sl_loop] def qloop (𝒱 : Variants) (c : Dev nD) (bd : Option 𝒱.V) (E : Set ℕ) (i : grid0.Coords) (arg1 : Memref sig .tc .vmem S256x5120 .bf16) (harg1 : arg1.IsWhole) (arg2 : Memref sig .tc .vmem S256x5120 .i8) (harg2 : arg2.IsWhole) (arg3 : Memref sig .tc .vmem S256x1 .f32) (harg3 : arg3.IsWhole) (arg4 : Memref sig .tc .vmem S32x5120 .f32) (harg4 : arg4.IsWhole) (X : Cts F arg1) :
    Idealize.ShloMosaic.LoopInv (M := MT nD τ sig Unit (Elt F) ℕ UU ℕ) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4) where
  inv := qinv (F := F) c arg1 arg2 arg3 arg4 X
  step k acc := by
    iintro ⟨H1, ⟨%f2, H2, %h2⟩, ⟨%f3, H3, %h3⟩, ⟨%f4, H4⟩⟩
    iapply (wp_wand_r Idealize.ShloMosaic.frame (wpE (defs₀ (F := F)) 𝒱 (c : Thread nD τ) bd) E)
    isplitl [H1 H2 H3 H4]
    · iapply (qtrip_run (F := F) 𝒱 c bd i arg1 harg1 arg2 harg2 arg3 harg3 arg4 harg4 X k E f2 f3 f4)
      isplitl [H1]; · iexact H1
      isplitl [H2]; · iexact H2
      isplitl [H3]; · iexact H3
      iexact H4
    · iintro %_ ⟨H1, H2, H3, H4⟩
      isplitl [H1]; · iexact H1
      isplitl [H2]
      · iexists _; isplitl [H2]; · iexact H2
        ipureintro; intro y hy
        rw [read_codes]
        split
        · rfl
        · exact h2 y (by omega)
      isplitl [H3]
      · iexists _; isplitl [H3]; · iexact H3
        ipureintro; intro y hy
        rw [read_scales]
        split
        · rfl
        · exact h3 y (by omega)
      iexists _; iexact H4

/-- The body run whole: the codes and the scales of every row, from the block read. -/
theorem quant_run (𝒱 : Variants) (c : Dev nD) (bd : Option 𝒱.V) (E : Set ℕ) (i : grid0.Coords) (arg1 : Memref sig .tc .vmem S256x5120 .bf16) (harg1 : arg1.IsWhole) (arg2 : Memref sig .tc .vmem S256x5120 .i8) (harg2 : arg2.IsWhole) (arg3 : Memref sig .tc .vmem S256x1 .f32) (harg3 : arg3.IsWhole) (arg4 : Memref sig .tc .vmem S32x5120 .f32) (harg4 : arg4.IsWhole) (X : Cts F arg1)
    (f2 : Cts F arg2) (f3 : Cts F arg3) (f4 : Cts F arg4) (Q : PUnit → sProp 𝕄) :
    iprop(at_ c arg1 X ∗ at_ c arg2 f2 ∗ at_ c arg3 f3 ∗ at_ c arg4 f4
      ∗ (iprop(at_ c arg1 X ∗ (∃ f, at_ c arg2 f ∗ ⌜arg2.view.read (Elt F) f = codesBlk (arg1.view.read (Elt F) X)⌝)
          ∗ (∃ f, at_ c arg3 f ∗ ⌜arg3.view.read (Elt F) f = scaleBlk (arg1.view.read (Elt F) X)⌝) ∗ (∃ f, at_ c arg4 f)) -∗ Q ⟨⟩))
    ⊢ wp frame (wpE (defs₀ (F := F)) 𝒱 (c : Thread nD τ) bd) E (cc0_quant (F := F) i arg1 harg1 arg2 harg2 arg3 harg3 arg4 harg4) Q := by
  rw [cc0_quant_eq_skeleton]
  unfold cc0_quant_skel
  iintro ⟨H1, H2, H3, H4, HQ⟩
  sl_exec
  sl_step
  iapply HQ
  isplitl [H1]; · iexact H1
  isplitl [H2]
  · iexists fL0; isplitl [H2]; · iexact H2
    ipureintro; exact funext fun y => hL2 y (Nat.lt_of_lt_of_le (idx2_lt0 y) (by decide))
  isplitl [H3]
  · iexists fL1; isplitl [H3]; · iexact H3
    ipureintro; exact funext fun y => hL4 y (Nat.lt_of_lt_of_le (idx2_lt0 y) (by decide))
  iexists fL2; iexact H4

end Cert.Hand

end
-- ==== Proof.QuantRegion.lean ====
/-
  The rotate-and-quantise pallas_call's proof data: at every point of its grid the body leaves in the two staging blocks
  the codes and scales of the rows it was handed.
-/
module

public import proofs.«01_k».proof.Proof.QuantRun
public import proofs.«01_k».proof.Proof.Gen.KernelIdeal.Launch
public import proofs.«01_k».proof.Proof.Gen.KernelIdeal.Points

@[expose] public section

set_option maxRecDepth 8192
set_option maxHeartbeats 4000000

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

/-- The rows handed to point `t`, of the array `A`. -/
abbrev xBlk (c : Dev nD) (V : Valuation τ sig (Elt F)) (t : Fin cfg0.N) : Vec F S256x5120 .bf16 :=
  ((cfg0.win 0).blk t).view.read (Elt F) (V (Pipeline.arrRef spec0 0))

/-- The pallas_call's proof data from the buffers at `V`. -/
def dat0 (c : Dev nD) (V : Valuation τ sig (Elt F)) : Dat τ (Elt F) Unit ℕ UU ℕ cfg0 c where
  A w := V (Pipeline.arrRef spec0 w)
  after w t := match w with
    | ⟨0, _⟩ => xBlk c V t
    | ⟨1, _⟩ => codesBlk (xBlk c V t)
    | ⟨2, _⟩ => scaleBlk (xBlk c V t)
  Φ _ := Pipeline.scopedRest (Ix := Unit) (Name := ℕ) (U := UU) (Lvl := ℕ) (Val := Elt F) spec0 c
  q _ := fullShare
  owed _ := 0

theorem before0 (c : Dev nD) (V : Valuation τ sig (Elt F)) (t : Fin cfg0.N) (d : (cfg0.win 0).block.Idx → Elt F (cfg0.win 0).elt) :
    (dat0 c V).before 0 t d = xBlk c V t := by
  unfold Dat.before; rw [if_pos (fetch0_0 t)]; rfl

theorem body0 (c : Dev nD) (V : Valuation τ sig (Elt F)) : BodyObligation (dat0 c V) (defs₀ (F := F)) Variants.none () Set.univ := fun t => by
  rw [bigSep_W0, bigSep_W0]
  rw [show (dat0 c V).Φ t.castSucc = Pipeline.scopedRest (Ix := Unit) (Name := ℕ) (U := UU) (Lvl := ℕ) (Val := Elt F) spec0 c from rfl,
    show (dat0 c V).Φ t.succ = Pipeline.scopedRest (Ix := Unit) (Name := ℕ) (U := UU) (Lvl := ℕ) (Val := Elt F) spec0 c from rfl,
    show (dat0 c V).owesAt () t.succ = (dat0 c V).owesAt () t.castSucc from rfl, scopedRest0_eq]
  show _ ⊢ wp frame (wpE (defs₀ (F := F)) Variants.none (c : Thread nD τ) none) Set.univ (bodyAt0 t) _
  unfold owns
  iintro ⟨⟨⟨%f4, H4⟩, Hr⟩, Howes, ⟨%d0, %f0, %hf0, H0⟩, ⟨%d1, %f1, -, H1⟩, ⟨%d2, %f2, -, H2⟩⟩
  rw [before0] at hf0
  iapply (quant_run (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _) f0 f1 f2 f4)
  isplitl [H0]; · iexact H0
  isplitl [H1]; · iexact H1
  isplitl [H2]; · iexact H2
  isplitl [H4]; · iapply (Entails.of_eq (at_whole c cc0_scratch0 f4).symm); iexact H4
  iintro ⟨H0, ⟨%g1, H1, %h1⟩, ⟨%g2, H2, %h2⟩, ⟨%g4, H4⟩⟩
  isplitl [H4 Hr]
  · isplitl [H4]
    · iexists g4; iapply (Entails.of_eq (at_whole c cc0_scratch0 g4)); iexact H4
    iexact Hr
  isplitl [Howes]; · iexact Howes
  isplitl [H0]; · iexists f0; isplitr; swap; (· iexact H0); ipureintro; exact hf0
  isplitl [H1]; · iexists g1; isplitr; swap; (· iexact H1); ipureintro; rw [h1]; exact congrArg _ hf0
  iexists g2; isplitr; swap; (· iexact H2); ipureintro; rw [h2]; exact congrArg _ hf0

end Cert.Hand

end
-- ==== Proof.ProjRun.lean ====
/-
  The projection's body run whole, for every interpretation of the floats: at the first point the packed weights are
  brought in and unpacked into the scratch matrix; at every point the block of results is made from the block of codes,
  their scales, the unpacked weights and the weights' scales.
-/
module

public import proofs.«01_k».proof.Proof.Base
public import Idealize.ShloMosaic.Lib.ValueIdxCore

@[expose] public section

set_option maxRecDepth 8192
set_option maxHeartbeats 4000000

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem t1_lt (k : Fin k1_t1_loop.trips) : k.val < 40 := k.isLt
theorem t2_lt (k : Fin k1_t2_loop.trips) : k.val < 20 := k.isLt

/-! ## The blocks -/

/-- 128 rows of the packed weights. -/
def pRows (P : Vec F S5120x2560 .i8) (k : Fin 40) : Vec F S128x2560 .i8 := fun y =>
  P (ix2 ⟨128 * k.val + (y 0).val, by have := idx2_lt0 y; have := k.isLt; omega⟩ (y 1))

/-- The unpacked weights: the low nibbles in the left half of the columns, the high nibbles in the right half. -/
def wMat (P : Vec F S5120x2560 .i8) : Vec F S5120x5120 .fp8e4m3 := fun y =>
  if h : (y 1).val < 2560 then
    k1_pay2 (pRows P ⟨(y 0).val / 128, by have := idx2_lt0 y; omega⟩) (ix2 ⟨(y 0).val % 128, Nat.mod_lt _ (by decide)⟩ ⟨(y 1).val, h⟩)
  else
    k1_pay3 (pRows P ⟨(y 0).val / 128, by have := idx2_lt0 y; omega⟩) (ix2 ⟨(y 0).val % 128, Nat.mod_lt _ (by decide)⟩ ⟨(y 1).val - 2560, by have := idx2_lt1 y; omega⟩)

/-- 256 rows of the unpacked weights. -/
def wRows (W : Vec F S5120x5120 .fp8e4m3) (j : Fin 20) : Vec F S256x5120 .fp8e4m3 := fun y =>
  W (ix2 ⟨256 * j.val + (y 0).val, by have := idx2_lt0 y; have := j.isLt; omega⟩ (y 1))

/-- 256 of the weights' scales. -/
def sRows (S : Vec F S1x5120 .f32) (j : Fin 20) : Vec F S1x256 .f32 := fun y =>
  S (ix2 0 ⟨256 * j.val + (y 1).val, by have := idx2_lt1 y; have := j.isLt; omega⟩)

/-- The block of results. -/
def outBlk (xc : Vec F S256x5120 .i8) (s : Vec F S256x1 .f32) (W : Vec F S5120x5120 .fp8e4m3) (S : Vec F S1x5120 .f32) : Vec F S256x5120 .bf16 := fun y =>
  k1_pay4 xc s (wRows W ⟨(y 1).val / 256, by have := idx2_lt1 y; omega⟩) (sRows S ⟨(y 1).val / 256, by have := idx2_lt1 y; omega⟩)
    (ix2 (y 0) ⟨(y 1).val % 256, Nat.mod_lt _ (by decide)⟩)

variable (i : grid1.Coords) (arg1 : Memref sig .tc .vmem S256x5120 .i8) (harg1 : arg1.IsWhole) (arg2 : Memref sig .tc .vmem S256x1 .f32) (harg2 : arg2.IsWhole) (arg3 : Memref sig .tc .vmem S1x5120 .f32) (harg3 : arg3.IsWhole) (arg4 : Memref sig .tc .hbm S5120x2560 .i8) (harg4 : arg4.IsWhole) (arg5 : Memref sig .tc .vmem S256x5120 .bf16) (harg5 : arg5.IsWhole) (arg6 : Memref sig .tc .vmem S5120x2560 .i8) (harg6 : arg6.IsWhole) (arg7 : Memref sig .tc .vmem S5120x5120 .fp8e4m3) (harg7 : arg7.IsWhole) (arg8 : DmaSems sig S_)

/-! ## Unpacking -/

/-- The rows read by a trip of the unpacking. -/
theorem readAt_rows (v : View sig .tc .vmem S5120x2560 .i8) (f : v.ty.Contents (Elt F)) (k : Fin k1_t1_loop.trips)
    (inb : ∀ a, k1_off1 k a + S128x2560.size a ≤ S5120x2560.size a) :
    v.readAt (Elt F) (Rect.unit (s := S5120x2560) (k1_off1 k) S128x2560.size inb).toLoadRect f = pRows (v.read (Elt F) f) ⟨k.val, t1_lt k⟩ := by
  funext (y : S128x2560.Idx)
  rw [View.readAt_apply]
  unfold pRows
  refine congrArg _ (funext fun a => Fin.ext ?_)
  match a with
  | ⟨0, _⟩ =>
    show k1_off1 k 0 + 1 * (y 0).val = 128 * k.val + (y 0).val
    rw [k1_off1_eq]; show 128 * k.val + 1 * (y 0).val = _; omega
  | ⟨1, _⟩ =>
    show k1_off1 k 1 + 1 * (y 1).val = (y 1).val
    rw [k1_off1_eq]; show 0 + 1 * (y 1).val = _; omega

/-- The two pieces a trip writes leave the unpacked rows, and nothing elsewhere. -/
theorem read_unpack (v : View sig .tc .vmem S5120x5120 .fp8e4m3) (f : v.ty.Contents (Elt F)) (P : Vec F S5120x2560 .i8) (k : Fin k1_t1_loop.trips)
    (inb2 : ∀ a, k1_off2 k a + S128x2560.size a ≤ S5120x5120.size a) (inb3 : ∀ a, k1_off3 k a + S128x2560.size a ≤ S5120x5120.size a) (y : S5120x5120.Idx) :
    v.read (Elt F) (v.writes (Elt F) f [(⟨Rect.unit (s := S5120x5120) (k1_off3 k) S128x2560.size inb3, k1_pay3 (pRows P ⟨k.val, t1_lt k⟩)⟩ : View.Piece (Elt F) S5120x5120 .fp8e4m3),
        ⟨Rect.unit (s := S5120x5120) (k1_off2 k) S128x2560.size inb2, k1_pay2 (pRows P ⟨k.val, t1_lt k⟩)⟩]) y
      = if 128 * k.val ≤ (y 0).val ∧ (y 0).val < 128 * k.val + 128 then wMat P y else v.read (Elt F) f y := by
  have hk := t1_lt k
  have y0 := idx2_lt0 y
  have y1 := idx2_lt1 y
  split
  · rename_i h
    have et : (⟨(y 0).val / 128, by omega⟩ : Fin 40) = ⟨k.val, t1_lt k⟩ := Fin.ext (by show (y 0).val / 128 = k.val; omega)
    unfold wMat
    split
    · rename_i hc
      rw [et]
      rw [View.read_writes_cons_unit_of_not_mem v f inb3 _ _ y (k1_off3_eq k) 1 (by
        show (y 1).val < 2560 ∨ _; exact Or.inl hc)]
      exact View.read_writes_cons_unit_of_mem v f inb2 (k1_pay2 (pRows P ⟨k.val, t1_lt k⟩)) [] y
        (ix2 (n0 := 128) (n1 := 2560) ⟨(y 0).val % 128, Nat.mod_lt _ (by decide)⟩ ⟨(y 1).val, hc⟩) (k1_off2_eq k)
        (Fin.forall_fin_two.mpr ⟨by show (y 0).val = 128 * k.val + (y 0).val % 128; omega, by show (y 1).val = 0 + (y 1).val; omega⟩)
    · rename_i hc
      rw [et]
      exact View.read_writes_cons_unit_of_mem v f inb3 (k1_pay3 (pRows P ⟨k.val, t1_lt k⟩)) _ y
        (ix2 (n0 := 128) (n1 := 2560) ⟨(y 0).val % 128, Nat.mod_lt _ (by decide)⟩ ⟨(y 1).val - 2560, by omega⟩) (k1_off3_eq k)
        (Fin.forall_fin_two.mpr ⟨by show (y 0).val = 128 * k.val + (y 0).val % 128; omega, by show (y 1).val = 2560 + ((y 1).val - 2560); omega⟩)
  · rename_i h
    rw [View.read_writes_cons_unit_of_not_mem v f inb3 _ _ y (k1_off3_eq k) 0 (by
      show (y 0).val < 128 * k.val ∨ 128 * k.val + 128 ≤ (y 0).val; omega),
      View.read_writes_cons_unit_of_not_mem v f inb2 _ _ y (k1_off2_eq k) 0 (by
      show (y 0).val < 128 * k.val ∨ 128 * k.val + 128 ≤ (y 0).val; omega)]
    rfl

/-- The unpacking's invariant: the rows of the trips so far are unpacked. -/
abbrev uinv (c : Dev nD) (f6 : Cts F arg6) (k : ℕ) (_u : PUnit) : sProp 𝕄 :=
  iprop(at_ c arg6 f6
    ∗ (∃ f, at_ c arg7 f ∗ ⌜∀ y : S5120x5120.Idx, (y 0).val < 128 * k → arg7.view.read (Elt F) f y = wMat (arg6.view.read (Elt F) f6) y⌝))

set_option warn.classDefReducibility false in
/-- The unpacking by its invariant. -/
@[sl_loop] def uloop (𝒱 : Variants) (c : Dev nD) (bd : Option 𝒱.V) (E : Set ℕ) (f6 : Cts F arg6) (k1_h1 : k1_cond1 i = 1#1) :
    Idealize.ShloMosaic.LoopInv (M := MT nD τ sig Unit (Elt F) ℕ UU ℕ) Idealize.ShloMosaic.frame (wpE (defs₀ (F := F)) 𝒱 (c : Thread nD τ) bd) E
      k1_t1_loop.lb k1_t1_loop.ub k1_t1_loop.st (k1_t1_ok i k1_h1) () (k1_t1_body (F := F) i arg1 harg1 arg2 harg2 arg3 harg3 arg4 harg4 arg5 harg5 arg6 harg6 arg7 harg7 arg8 k1_h1) where
  inv := uinv (F := F) arg6 arg7 c f6
  step k acc := by
    have hk : k.val < 40 := t1_lt k
    unfold k1_t1_body
    iintro ⟨H6, ⟨%f7, H7, %h7⟩⟩
    sl_exec
    sl_step
    isplitl [H6]; · iexact H6
    iexists _; isplitl [H7]; · iexact H7
    ipureintro; intro y hy
    rw [readAt_rows, read_unpack]
    split
    · rfl
    · exact h7 y (by omega)

/-! ## The results -/

/-- The piece a trip of the results writes. -/
theorem read_out (v : View sig .tc .vmem S256x5120 .bf16) (f : v.ty.Contents (Elt F)) (xc : Vec F S256x5120 .i8) (s : Vec F S256x1 .f32) (W : Vec F S5120x5120 .fp8e4m3) (S : Vec F S1x5120 .f32) (k : Fin k1_t2_loop.trips)
    (inb : ∀ a, k1_off6 k a + S256x256.size a ≤ S256x5120.size a) (y : S256x5120.Idx) :
    v.read (Elt F) (v.writes (Elt F) f [(⟨Rect.unit (s := S256x5120) (k1_off6 k) S256x256.size inb, k1_pay4 xc s (wRows W ⟨k.val, t2_lt k⟩) (sRows S ⟨k.val, t2_lt k⟩)⟩ : View.Piece (Elt F) S256x5120 .bf16)]) y
      = if 256 * k.val ≤ (y 1).val ∧ (y 1).val < 256 * k.val + 256 then outBlk xc s W S y else v.read (Elt F) f y := by
  have hk := t2_lt k
  have y0 := idx2_lt0 y
  have y1 := idx2_lt1 y
  split
  · rename_i h
    have et : (⟨(y 1).val / 256, by omega⟩ : Fin 20) = ⟨k.val, t2_lt k⟩ := Fin.ext (by show (y 1).val / 256 = k.val; omega)
    unfold outBlk
    rw [et]
    exact View.read_writes_cons_unit_of_mem v f inb (k1_pay4 xc s (wRows W ⟨k.val, t2_lt k⟩) (sRows S ⟨k.val, t2_lt k⟩)) [] y
      (ix2 (n0 := 256) (n1 := 256) (y 0) ⟨(y 1).val % 256, Nat.mod_lt _ (by decide)⟩) (k1_off6_eq k)
      (Fin.forall_fin_two.mpr ⟨by show (y 0).val = 0 + (y 0).val; omega, by show (y 1).val = 256 * k.val + (y 1).val % 256; omega⟩)
  · rename_i h
    rw [View.read_writes_cons_unit_of_not_mem v f inb _ _ y (k1_off6_eq k) 1 (by
      show (y 1).val < 256 * k.val ∨ 256 * k.val + 256 ≤ (y 1).val; omega)]
    rfl

theorem readAt_wRows (v : View sig .tc .vmem S5120x5120 .fp8e4m3) (f : v.ty.Contents (Elt F)) (k : Fin k1_t2_loop.trips)
    (inb : ∀ a, k1_off4 k a + S256x5120.size a ≤ S5120x5120.size a) :
    v.readAt (Elt F) (Rect.unit (s := S5120x5120) (k1_off4 k) S256x5120.size inb).toLoadRect f = wRows (v.read (Elt F) f) ⟨k.val, t2_lt k⟩ := by
  funext (y : S256x5120.Idx)
  rw [View.readAt_apply]
  unfold wRows
  refine congrArg _ (funext fun a => Fin.ext ?_)
  match a with
  | ⟨0, _⟩ =>
    show k1_off4 k 0 + 1 * (y 0).val = 256 * k.val + (y 0).val
    rw [k1_off4_eq]; show 256 * k.val + 1 * (y 0).val = _; omega
  | ⟨1, _⟩ =>
    show k1_off4 k 1 + 1 * (y 1).val = (y 1).val
    rw [k1_off4_eq]; show 0 + 1 * (y 1).val = _; omega

theorem readAt_sRows (v : View sig .tc .vmem S1x5120 .f32) (f : v.ty.Contents (Elt F)) (k : Fin k1_t2_loop.trips)
    (inb : ∀ a, k1_off5 k a + S1x256.size a ≤ S1x5120.size a) :
    v.readAt (Elt F) (Rect.unit (s := S1x5120) (k1_off5 k) S1x256.size inb).toLoadRect f = sRows (v.read (Elt F) f) ⟨k.val, t2_lt k⟩ := by
  funext (y : S1x256.Idx)
  rw [View.readAt_apply]
  unfold sRows
  refine congrArg _ (funext fun a => Fin.ext ?_)
  match a with
  | ⟨0, _⟩ =>
    have := idx2_lt0 y
    show k1_off5 k 0 + 1 * (y 0).val = 0
    rw [k1_off5_eq]; show 0 + 1 * (y 0).val = _; omega
  | ⟨1, _⟩ =>
    show k1_off5 k 1 + 1 * (y 1).val = 256 * k.val + (y 1).val
    rw [k1_off5_eq]; show 256 * k.val + 1 * (y 1).val = _; omega

/-- The results' invariant: the columns of the trips so far hold their results. -/
abbrev oinv (c : Dev nD) (f3 : Cts F arg3) (f7 : Cts F arg7) (v3 : Vec F S256x5120 .i8) (v7 : Vec F S256x1 .f32) (k : ℕ) (_u : PUnit) : sProp 𝕄 :=
  iprop(at_ c arg3 f3 ∗ at_ c arg7 f7
    ∗ (∃ f, at_ c arg5 f ∗ ⌜∀ y : S256x5120.Idx, (y 1).val < 256 * k → arg5.view.read (Elt F) f y = outBlk v3 v7 (arg7.view.read (Elt F) f7) (arg3.view.read (Elt F) f3) y⌝))

set_option warn.classDefReducibility false in
/-- The results by their invariant. -/
@[sl_loop] def oloop (𝒱 : Variants) (c : Dev nD) (bd : Option 𝒱.V) (E : Set ℕ) (f3 : Cts F arg3) (f7 : Cts F arg7) (v3 : Vec F S256x5120 .i8) (v7 : Vec F S256x1 .f32) :
    Idealize.ShloMosaic.LoopInv (M := MT nD τ sig Unit (Elt F) ℕ UU ℕ) Idealize.ShloMosaic.frame (wpE (defs₀ (F := F)) 𝒱 (c : Thread nD τ) bd) E
      k1_t2_loop.lb k1_t2_loop.ub k1_t2_loop.st k1_t2_ok () (k1_t2_body (F := F) i arg1 harg1 arg2 harg2 arg3 harg3 arg4 harg4 arg5 harg5 arg6 harg6 arg7 harg7 arg8 v3 v7) where
  inv := oinv (F := F) arg3 arg5 arg7 c f3 f7 v3 v7
  step k acc := by
    have hk : k.val < 20 := t2_lt k
    unfold k1_t2_body
    iintro ⟨H3, H7, ⟨%f5, H5, %h5⟩⟩
    sl_exec
    sl_step
    isplitl [H3]; · iexact H3
    isplitl [H7]; · iexact H7
    iexists _; isplitl [H5]; · iexact H5
    ipureintro; intro y hy
    rw [readAt_wRows, readAt_sRows, read_out]
    split
    · rfl
    · exact h5 y (by omega)

/-! ## The body -/

/-- A load of a whole buffer reads the buffer. -/
theorem readAt_origin {sp : Space} {s : Shape} {e : EltTy} (v : View sig .tc sp s e) (f : v.ty.Contents (Elt F)) (off : Fin s.rank → Nat) (h : ∀ a, off a = 0)
    (inb : ∀ a, off a + s.size a ≤ s.size a) : v.readAt (Elt F) (Rect.unit (s := s) off s.size inb).toLoadRect f = v.read (Elt F) f := by
  funext y
  rw [View.readAt_apply]
  exact congrArg _ (funext fun a => Fin.ext (by show off a + 1 * (y a).val = (y a).val; rw [h a]; omega))

/-- A whole-buffer piece leaves its payload. -/
theorem read_writes_all {sp : Space} {s : Shape} {e : EltTy} (v : View sig .tc sp s e) (f : v.ty.Contents (Elt F)) (w : s.Idx → Elt F e) :
    v.read (Elt F) (v.writes (Elt F) f [(⟨Rect.whole s, w⟩ : View.Piece (Elt F) s e)]) = w := by
  have he : ∀ x : s.Idx, (Rect.whole s).emb x = x := fun x => funext fun a => Fin.ext (by show 0 + 1 * (x a).val = (x a).val; omega)
  funext y
  refine View.read_writes_apply_of_pieces (Val := Elt F) _ _ w _ (fun p hp => ?_) y ⟨_, List.mem_singleton.mpr rfl, ?_⟩
  · obtain rfl := List.mem_singleton.mp hp
    intro x
    exact congrArg w (he x).symm
  · rw [← Rect.map_emb_univ]
    exact Finset.mem_map.mpr ⟨y, Finset.mem_univ _, he y⟩

/-- The body at a later point: the unpacked weights as found. -/
theorem proj_later (𝒱 : Variants) (c : Dev nD) (bd : Option 𝒱.V) (E : Set ℕ) (h : ¬ k1_cond1 i = 1#1)
    (f1 : Cts F arg1) (f2 : Cts F arg2) (f3 : Cts F arg3) (f5 : Cts F arg5) (f7 : Cts F arg7) (Q : PUnit → sProp 𝕄) :
    iprop(at_ c arg1 f1 ∗ at_ c arg2 f2 ∗ at_ c arg3 f3 ∗ at_ c arg5 f5 ∗ at_ c arg7 f7
      ∗ (iprop(at_ c arg1 f1 ∗ at_ c arg2 f2 ∗ at_ c arg3 f3
          ∗ (∃ f, at_ c arg5 f ∗ ⌜arg5.view.read (Elt F) f = outBlk (arg1.view.read (Elt F) f1) (arg2.view.read (Elt F) f2) (arg7.view.read (Elt F) f7) (arg3.view.read (Elt F) f3)⌝)
          ∗ at_ c arg7 f7) -∗ Q ⟨⟩))
    ⊢ wp frame (wpE (defs₀ (F := F)) 𝒱 (c : Thread nD τ) bd) E (cc1_proj (F := F) i arg1 harg1 arg2 harg2 arg3 harg3 arg4 harg4 arg5 harg5 arg6 harg6 arg7 harg7 arg8) Q := by
  rw [cc1_proj_eq_skeleton]
  unfold cc1_proj_skel
  rw [dif_neg h]
  iintro ⟨H1, H2, H3, H5, H7, HQ⟩
  sl_exec
  sl_step
  iapply HQ
  isplitl [H1]; · iexact H1
  isplitl [H2]; · iexact H2
  isplitl [H3]; · iexact H3
  isplitl [H5]
  · iexists fL0; isplitl [H5]; · iexact H5
    ipureintro; funext y
    rw [hL3 y (Nat.lt_of_lt_of_le (idx2_lt1 y) (by decide)),
      readAt_origin arg1.view f1 ![0, 0] (by decide), readAt_origin arg2.view f2 ![0, 0] (by decide)]
  iexact H7

/-- The body at the first point: the packed weights brought in and unpacked before. -/
theorem proj_first (𝒱 : Variants) (c : Dev nD) (bd : Option 𝒱.V) (h : k1_cond1 i = 1#1) (W : Waits sig Unit)
    (f1 : Cts F arg1) (f2 : Cts F arg2) (f3 : Cts F arg3) (f4 : Cts F arg4) (f5 : Cts F arg5) (f6 : Cts F arg6) (f7 : Cts F arg7) (Q : PUnit → sProp 𝕄) :
    iprop(at_ c arg1 f1 ∗ at_ c arg2 f2 ∗ at_ c arg3 f3 ∗ at_ c arg4 f4 ∗ at_ c arg5 f5 ∗ at_ c arg6 f6 ∗ at_ c arg7 f7
      ∗ semVal ((c : Thread nD τ), .dma arg8.sem) 0 ∗ owes (c : Thread nD τ) 0 W
      ∗ (iprop(at_ c arg1 f1 ∗ at_ c arg2 f2 ∗ at_ c arg3 f3 ∗ at_ c arg4 f4
          ∗ (∃ f, at_ c arg5 f ∗ ⌜arg5.view.read (Elt F) f = outBlk (arg1.view.read (Elt F) f1) (arg2.view.read (Elt F) f2) (wMat (arg4.view.read (Elt F) f4)) (arg3.view.read (Elt F) f3)⌝)
          ∗ (∃ f, at_ c arg6 f)
          ∗ (∃ f, at_ c arg7 f ∗ ⌜arg7.view.read (Elt F) f = wMat (arg4.view.read (Elt F) f4)⌝)
          ∗ semVal ((c : Thread nD τ), .dma arg8.sem) 0 ∗ ∃ W, owes (c : Thread nD τ) 0 W) -∗ Q ⟨⟩))
    ⊢ wp frame (wpE (defs₀ (F := F)) 𝒱 (c : Thread nD τ) bd) Set.univ (cc1_proj (F := F) i arg1 harg1 arg2 harg2 arg3 harg3 arg4 harg4 arg5 harg5 arg6 harg6 arg7 harg7 arg8) Q := by
  rw [cc1_proj_eq_skeleton]
  unfold cc1_proj_skel
  rw [dif_pos h]
  iintro ⟨H1, H2, H3, H4, H5, H6, H7, Hs, HO, HQ⟩
  sl_exec!
  sl_step
  have h7 : arg7.view.read (Elt F) fL0 = wMat (arg4.view.read (Elt F) f4) := by
    funext y
    rw [hL2 y (Nat.lt_of_lt_of_le (idx2_lt0 y) (by decide))]
    refine congrFun (congrArg wMat ?_) y
    unfold proj_first.sl.dma0
    exact read_writes_all _ _ _
  iapply HQ
  isplitl [H1]; · iexact H1
  isplitl [H2]; · iexact H2
  isplitl [H3]; · iexact H3
  isplitl [H4]; · iexact H4
  isplitl [H5]
  · iexists fL1; isplitl [H5]; · iexact H5
    ipureintro; funext y
    rw [hL6 y (Nat.lt_of_lt_of_le (idx2_lt1 y) (by decide)), h7,
      readAt_origin arg1.view f1 ![0, 0] (by decide), readAt_origin arg2.view f2 ![0, 0] (by decide)]
  isplitl [H6]; · iexists _; iexact H6
  isplitl [H7]
  · iexists fL0; isplitl [H7]; · iexact H7
    ipureintro; exact h7
  isplitl [Hs]; · iexact Hs
  iexists _; iexact HO

end Cert.Hand

end
-- ==== Proof.ProjRegion.lean ====
/-
  The projection pallas_call's proof data: from the first point on the scratch matrix holds the unpacked weights, and at
  every point the body leaves the block of results.
-/
module

public import proofs.«01_k».proof.Proof.ProjRun
public import proofs.«01_k».proof.Proof.Gen.KernelIdeal.Launch
public import proofs.«01_k».proof.Proof.Gen.KernelIdeal.Points

@[expose] public section

set_option maxRecDepth 8192
set_option maxHeartbeats 4000000

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

/-- The grid's first point. -/
abbrev p0 : Fin cfg1.N := ⟨0, by decide⟩

/-- What the windows hand to point `t`: codes, scales, and the weights' scales. -/
abbrev cBlk1 (c : Dev nD) (V : Valuation τ sig (Elt F)) (t : Fin cfg1.N) : Vec F S256x5120 .i8 :=
  ((cfg1.win 0).blk t).view.read (Elt F) (V (Pipeline.arrRef spec1 0))
abbrev sBlk1 (c : Dev nD) (V : Valuation τ sig (Elt F)) (t : Fin cfg1.N) : Vec F S256x1 .f32 :=
  ((cfg1.win 1).blk t).view.read (Elt F) (V (Pipeline.arrRef spec1 1))
abbrev wsBlk1 (c : Dev nD) (V : Valuation τ sig (Elt F)) : Vec F S1x5120 .f32 :=
  ((cfg1.win 2).blk p0).view.read (Elt F) (V (Pipeline.arrRef spec1 2))
/-- The packed weights. -/
abbrev pArr (V : Valuation τ sig (Elt F)) : Vec F S5120x2560 .i8 := V main_arg1

/-- A buffer held whole at something. -/
abbrev any (c : Dev nD) (b : Ref sig .tc) : sProp 𝕄 := iprop(∃ f : Buf (Elt F) ((c : Thread nD τ).loc b), ((c : Thread nD τ).loc b) ↦{fullShare} f)

/-- The second call's own semaphore. -/
abbrev osem : Fin 1 → SemLoc sig := fun _ => .dma 13

theorem ownSemFacts : Pipeline.OwnSemFacts spec1 osem := by decide

abbrev sem0 (c : Dev nD) : sProp 𝕄 := semVal ((c : Thread nD τ), osem 0) 0

theorem ownSems0_eq (c : Dev nD) :
    (Pipeline.ownSems0 (Ix := Unit) (Name := ℕ) (U := UU) (Lvl := ℕ) (Val := Elt F) (τ := τ) osem c : sProp 𝕄) = sem0 (F := F) c :=
  Pipeline.ownSems0_eq_of_list c osem [0] (by decide) (by decide)

/-- The invariant before point `n`: the packed weights, the semaphore at zero, the other scoped buffers at something, and
    the scratch matrix, at the unpacked weights once the first point has run. -/
def Phi1 (c : Dev nD) (V : Valuation τ sig (Elt F)) (n : ℕ) : sProp 𝕄 :=
  iprop((((c : Thread nD τ).loc main_arg1) ↦{fullShare} V main_arg1) ∗ sem0 (F := F) c
    ∗ (any (F := F) c cc0_stg0_0 ∗ any (F := F) c cc0_stg0_1 ∗ any (F := F) c cc0_stg1_0 ∗ any (F := F) c cc0_stg1_1 ∗ any (F := F) c cc0_stg2_0 ∗ any (F := F) c cc0_stg2_1 ∗ any (F := F) c cc0_scratch0)
    ∗ any (F := F) c cc1_scratch0
    ∗ ∃ f : Buf (Elt F) ((c : Thread nD τ).loc cc1_scratch1), (((c : Thread nD τ).loc cc1_scratch1) ↦{fullShare} f) ∗ ⌜n ≠ 0 → (f : Vec F S5120x5120 .fp8e4m3) = wMat (pArr V)⌝)

/-- The pallas_call's proof data from the buffers at `V`. -/
def dat1 (c : Dev nD) (V : Valuation τ sig (Elt F)) : Dat τ (Elt F) Unit ℕ UU ℕ cfg1 c where
  A w := V (Pipeline.arrRef spec1 w)
  after w t := match w with
    | ⟨0, _⟩ => cBlk1 c V t
    | ⟨1, _⟩ => sBlk1 c V t
    | ⟨2, _⟩ => wsBlk1 c V
    | ⟨3, _⟩ => outBlk (cBlk1 c V t) (sBlk1 c V t) (wMat (pArr V)) (wsBlk1 c V)
  Φ n := Phi1 c V n.val
  q _ := fullShare
  owed _ := 0

theorem cond_iff : ∀ t : Fin grid1.N, k1_cond1 (grid1.coords t) = 1#1 ↔ t.val = 0 := by decide

theorem before1_0 (c : Dev nD) (V : Valuation τ sig (Elt F)) (t : Fin cfg1.N) (d : (cfg1.win 0).block.Idx → Elt F (cfg1.win 0).elt) :
    (dat1 c V).before 0 t d = cBlk1 c V t := by
  unfold Dat.before; rw [if_pos (fetch1_0 t)]; rfl
theorem before1_1 (c : Dev nD) (V : Valuation τ sig (Elt F)) (t : Fin cfg1.N) (d : (cfg1.win 1).block.Idx → Elt F (cfg1.win 1).elt) :
    (dat1 c V).before 1 t d = sBlk1 c V t := by
  unfold Dat.before; rw [if_pos (fetch1_1 t)]; rfl
theorem before1_2 (c : Dev nD) (V : Valuation τ sig (Elt F)) (t : Fin cfg1.N) (d : (cfg1.win 2).block.Idx → Elt F (cfg1.win 2).elt) :
    (dat1 c V).before 2 t d = wsBlk1 c V := by
  have hN : t.val < 36 := t.isLt
  by_cases ht : t.val = 0
  · obtain rfl : t = p0 := Fin.ext ht
    unfold Dat.before; rw [if_pos ((fetch1_2 p0).mpr rfl)]; rfl
  · rw [(dat1 c V).before_of_pos 2 t ht (by
      rw [Bool.eq_false_iff]; intro h; exact ht (by have := (fetch1_2 t).mp h; omega))]
    rfl

set_option backward.isDefEq.respectTransparency.types false in
theorem body1 (c : Dev nD) (V : Valuation τ sig (Elt F)) : BodyObligation (dat1 c V) (defs₀ (F := F)) Variants.none () Set.univ := fun t => by
  rw [bigSep_W1, bigSep_W1]
  rw [show (dat1 c V).Φ t.castSucc = Phi1 c V t.val from rfl, show (dat1 c V).Φ t.succ = Phi1 c V (t.val + 1) from rfl]
  show _ ⊢ wp frame (wpE (defs₀ (F := F)) Variants.none (c : Thread nD τ) none) Set.univ (bodyAt1 t) _
  unfold owns Phi1 Dat.owesAt Pipeline.owesWithin
  rw [show (dat1 c V).owed t.castSucc = 0 from rfl, show (dat1 c V).owed t.succ = 0 from rfl]
  iintro ⟨⟨HP, Hs, Hr, ⟨%f6, H6⟩, ⟨%f7, H7, %h7⟩⟩, ⟨%W, %hW, HO⟩, ⟨%d0, %f0, %hf0, H0⟩, ⟨%d1, %f1, %hf1, H1⟩, ⟨%d2, %f2, %hf2, H2⟩, ⟨%d3, %f3, -, H3⟩⟩
  rw [before1_0] at hf0
  rw [before1_1] at hf1
  rw [before1_2] at hf2
  by_cases ht : k1_cond1 (grid1.coords t) = 1#1
  · iapply (proj_first (F := F) (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole main_arg1) (Memref.isWhole_whole _) (win1_3.stage (cfg1.slots t 3)) (hstage1_3 ((cfg1.slots t 3).cast nbuf1_3)) (Memref.whole cc1_scratch0) (Memref.isWhole_whole _) (Memref.whole cc1_scratch1) (Memref.isWhole_whole _) cc1_scratch2 Variants.none c none ht W f0 f1 f2 (V main_arg1) f3 f6 f7)
    isplitl [H0]; · iexact H0
    isplitl [H1]; · iexact H1
    isplitl [H2]; · iexact H2
    isplitl [HP]; · iapply (Entails.of_eq (at_whole c main_arg1 (V main_arg1)).symm); iexact HP
    isplitl [H3]; · iexact H3
    isplitl [H6]; · iapply (Entails.of_eq (at_whole c cc1_scratch0 f6).symm); iexact H6
    isplitl [H7]; · iapply (Entails.of_eq (at_whole c cc1_scratch1 f7).symm); iexact H7
    isplitl [Hs]; · iexact Hs
    isplitl [HO]; · iexact HO
    iintro ⟨H0, H1, H2, HP, ⟨%g3, H3, %h3⟩, ⟨%g6, H6⟩, ⟨%g7, H7, %hg7⟩, Hs, ⟨%W', HO⟩⟩
    isplitl [HP Hs Hr H6 H7]
    · isplitl [HP]; · iapply (Entails.of_eq (at_whole c main_arg1 (V main_arg1))); iexact HP
      isplitl [Hs]; · iexact Hs
      isplitl [Hr]; · iexact Hr
      isplitl [H6]; · iexists g6; iapply (Entails.of_eq (at_whole c cc1_scratch0 g6)); iexact H6
      iexists g7
      isplitl [H7]; · iapply (Entails.of_eq (at_whole c cc1_scratch1 g7)); iexact H7
      ipureintro; intro _; exact hg7
    isplitl [HO]
    · iexists W'; isplitr; · ipureintro; exact fun _ _ => Or.inl trivial
      iexact HO
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    iexists g3; isplitr; swap; (· iexact H3); ipureintro; rw [h3]; rw [hf0, hf1, hf2]; rfl
  · have ht0 : t.val ≠ 0 := fun h => ht ((cond_iff t).mpr h)
    iapply (proj_later (F := F) (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole main_arg1) (Memref.isWhole_whole _) (win1_3.stage (cfg1.slots t 3)) (hstage1_3 ((cfg1.slots t 3).cast nbuf1_3)) (Memref.whole cc1_scratch0) (Memref.isWhole_whole _) (Memref.whole cc1_scratch1) (Memref.isWhole_whole _) cc1_scratch2 Variants.none c none Set.univ ht f0 f1 f2 f3 f7)
    isplitl [H0]; · iexact H0
    isplitl [H1]; · iexact H1
    isplitl [H2]; · iexact H2
    isplitl [H3]; · iexact H3
    isplitl [H7]; · iapply (Entails.of_eq (at_whole c cc1_scratch1 f7).symm); iexact H7
    iintro ⟨H0, H1, H2, ⟨%g3, H3, %h3⟩, H7⟩
    isplitl [HP Hs Hr H6 H7]
    · isplitl [HP]; · iexact HP
      isplitl [Hs]; · iexact Hs
      isplitl [Hr]; · iexact Hr
      isplitl [H6]; · iexists f6; iexact H6
      iexists f7
      isplitl [H7]; · iapply (Entails.of_eq (at_whole c cc1_scratch1 f7)); iexact H7
      ipureintro; intro _; exact h7 ht0
    isplitl [HO]
    · iexists W; isplitr; · ipureintro; exact fun _ _ => Or.inl trivial
      iexact HO
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    have e7 : View.read (Elt F) (Memref.whole cc1_scratch1).view f7 = wMat (pArr V) := h7 ht0
    iexists g3; isplitr; swap; (· iexact H3); ipureintro; rw [h3]; rw [hf0, hf1, hf2, e7]; rfl

end Cert.Hand

end
-- ==== Proof.Whole.lean ====
/-
  The whole kernel: the two pallas_calls as segments between the host reshapes, and the launch, which says what the
  arguments and the three results hold at the end.
-/
module

public import proofs.«01_k».proof.Proof.QuantRegion
public import proofs.«01_k».proof.Proof.ProjRegion
public import proofs.«01_k».proof.Proof.Gen.KernelIdeal.Regions
public import Idealize.ShloMosaic.Lib.Pipeline.RegionsLoop

@[expose] public section

set_option maxRecDepth 8192
set_option maxHeartbeats 4000000

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0

/-- The two calls' proof data, entered from the buffers at `Va` and `Vb`. -/
def pd (Va Vb : Dev nD → Valuation τ sig (Elt F)) : (p : Fin 2) → (c : Dev nD) → Dat τ (Elt F) Unit ℕ UU ℕ (cfgs p) c
  | 0, c => dat0 c (Va c)
  | 1, c => dat1 c (Vb c)

/-- What rides beside the buffers: the core's dues, none. -/
abbrev dues (c : Dev nD) : sProp 𝕄 := iprop(∃ W, owes (c : Thread nD τ) (0 : CellTallies nD τ sig Unit) W)

section
variable (Va Vb Vp : Dev nD → Valuation τ sig (Elt F))

set_option backward.isDefEq.respectTransparency.types false in
/-- The first call as a segment: from the buffers at `Va` to the buffers at `Vp`, its two results what the data compute. -/
def reg0 (h1 : ∀ c, Vp c main_v1_0 = (dat0 c (Va c)).arrAt 1 cfg0.N) (h2 : ∀ c, Vp c main_v1_1 = (dat0 c (Va c)).arrAt 2 cfg0.N)
    (hne : ∀ c (b : Ref sig .tc), b ≠ main_v1_0 → b ≠ main_v1_1 → Vp c b = Va c b) :
    RegionSeg (pcfgs (F := F)) adm (pd Va Vb) () defs₀ Variants.none L lv 0 where
  win := launch0.win.to₀
  block_pos := launch0.block_pos
  stage_whole := launch0.stage_whole
  K := PEmpty
  osem k := k.elim
  ho := Pipeline.OwnSemFacts.none _
  hbody c := (body0 c (Va c)).loose
  hwaits := Pipeline.hwaits_of_owed_zero _ _ _ _ L lv 0 fun _ _ => rfl
  pre c := iprop(unscopedBufs c (fun b => Va c b) ∗ dues c)
  post c := iprop(unscopedBufs c (fun b => Vp c b) ∗ dues c)
  X _ := BI.emp
  Y _ := BI.emp
  Z c := iprop(Pipeline.unscopedRest (Ix := Unit) (Name := ℕ) (U := UU) (Lvl := ℕ) spec0 c (fun b => Va c b))
  hentry c := by
    rw [Pipeline.ownSems0_none]
    have hsplit := Pipeline.arrays_of_unscopedBufs (p := 0) (pcfgs (F := F)) adm (pd Va Vb) launch0.win launch0.arr_whole c
      ((pd Va Vb 0 c).share_full fun _ => rfl) (fun b => Va c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pd Va Vb 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pd Va Vb 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pd Va Vb) ((pd Va Vb 0 c).share_full fun _ => rfl) (fun b => Va c b) (fun b => Vp c b) ((pd Va Vb 0 c).arrAt · cfg0.N)
      (fun w => by
        fin_cases w
        · exact ((pd Va Vb 0 c).arrAt_in 0 rfl _).trans (hne c main_v0 (by decide) (by decide)).symm
        · exact (h1 c).symm
        · exact (h2 c).symm)
      (fun b hb => hne c b (fun h => hb (h ▸ Finset.mem_image.mpr ⟨1, Finset.mem_univ _, rfl⟩)) (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second call as a segment: from the buffers at `Vb` to the buffers at `Vp`, its result what the data compute. The
    packed weights and the semaphore go through the invariant. -/
def reg1 (h3 : ∀ c, Vp c main_v3 = (dat1 c (Vb c)).arrAt 3 cfg1.N)
    (hne : ∀ c (b : Ref sig .tc), b ≠ main_v3 → Vp c b = Vb c b) :
    RegionSeg (pcfgs (F := F)) adm (pd Va Vb) () defs₀ Variants.none L lv 1 where
  win := launch1.win.to₀
  block_pos := launch1.block_pos
  stage_whole := launch1.stage_whole
  K := Fin 1
  osem := osem
  ho := ownSemFacts
  hbody c := (body1 c (Vb c)).loose
  hwaits := Pipeline.hwaits_of_owed_zero _ _ _ _ L lv 1 fun _ _ => rfl
  pre c := iprop(unscopedBufs c (fun b => Vb c b) ∗ dues c)
  post c := iprop(unscopedBufs c (fun b => Vp c b) ∗ dues c)
  X c := iprop((((c : Thread nD τ).loc main_arg1) ↦{fullShare} Vb c main_arg1) ∗ sem0 c)
  Y c := iprop(((c : Thread nD τ).loc main_arg1) ↦{fullShare} Vb c main_arg1)
  Z c := iprop((((c : Thread nD τ).loc main_arg0) ↦{fullShare} Vb c main_arg0) ∗ (((c : Thread nD τ).loc main_arg2) ↦{fullShare} Vb c main_arg2)
    ∗ (((c : Thread nD τ).loc main_v0) ↦{fullShare} Vb c main_v0) ∗ (((c : Thread nD τ).loc main_v4) ↦{fullShare} Vb c main_v4)
    ∗ (((c : Thread nD τ).loc main_v5) ↦{fullShare} Vb c main_v5) ∗ (((c : Thread nD τ).loc main_v6) ↦{fullShare} Vb c main_v6))
  hentry c := by
    rw [ownSems0_eq]
    have hsplit := (Pipeline.arrays_of_unscopedBufs (p := 1) (pcfgs (F := F)) adm (pd Va Vb) launch1.win launch1.arr_whole c
      ((pd Va Vb 1 c).share_full fun _ => rfl) (fun b => Vb c b) fun _ => rfl).trans (sep_mono .rfl (Entails.of_eq (unscopedRest1_eq c (fun b => Vb c b))))
    iintro ⟨⟨Hub, HO⟩, Hos, -⟩
    ihave H := hsplit $$ Hub
    icases H with ⟨Ha, H0, H1, H2, Hv0, Hv4, Hv5, Hv6⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1] <;> iassumption
    isplitl [H0]; · iexact H0
    isplitl [H2]; · iexact H2
    isplitl [Hv0]; · iexact Hv0
    isplitl [Hv4]; · iexact Hv4
    isplitl [Hv5] <;> iassumption
  hin c := by
    rw [show (pd Va Vb 1 c).Φ 0 = Phi1 c (Vb c) 0 from rfl]; unfold Phi1
    have hr : Pipeline.scopedRest (Ix := Unit) (Name := ℕ) (U := UU) (Lvl := ℕ) (Val := Elt F) spec1 c ⊢ _ := Entails.of_eq (scopedRest1_eq c)
    iintro ⟨⟨H1, Hs⟩, -, Hr⟩
    ihave Hr := hr $$ Hr
    icases Hr with ⟨Ha, Hb, Hc, Hd, He, Hf, Hg, Hh, ⟨%f, Hi⟩⟩
    isplitl [H1]; · iexact H1
    isplitl [Hs]; · iexact Hs
    isplitl [Ha Hb Hc Hd He Hf Hg]
    · isplitl [Ha]; · iexact Ha
      isplitl [Hb]; · iexact Hb
      isplitl [Hc]; · iexact Hc
      isplitl [Hd]; · iexact Hd
      isplitl [He]; · iexact He
      isplitl [Hf]; · iexact Hf
      iexact Hg
    isplitl [Hh]; · iexact Hh
    iexists f
    isplitl [Hi]; · iexact Hi
    ipureintro; exact fun h => absurd rfl h
  hout c := by
    rw [ownSems0_eq, show (pd Va Vb 1 c).Φ (Fin.last _) = Phi1 c (Vb c) cfg1.N from rfl]; unfold Phi1
    have hr := Entails.of_eq (scopedRest1_eq (Ix := Unit) (Name := ℕ) (U := UU) (Lvl := ℕ) (Val := Elt F) c).symm
    iintro ⟨H1, Hs, ⟨Ha, Hb, Hc, Hd, He, Hf, Hg⟩, Hh, ⟨%f, Hi, -⟩⟩
    isplitl [H1]; · iexact H1
    isplitl [Hs]; · iexact Hs
    iapply hr
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    iexists f; iexact Hi
  hexit c := by
    have hjoin := Pipeline.unscopedBufs_of_arrays (p := 1) (pcfgs (F := F)) adm (Ix := Unit) (Name := ℕ) (U := UU) (Lvl := ℕ) launch1.win launch1.arr_whole c
      (pd Va Vb) ((pd Va Vb 1 c).share_full fun _ => rfl) (fun b => Vb c b) (fun b => Vp c b) ((pd Va Vb 1 c).arrAt · cfg1.N)
      (fun w => by
        fin_cases w
        · exact ((pd Va Vb 1 c).arrAt_in 0 rfl _).trans (hne c main_v1_0 (by decide)).symm
        · exact ((pd Va Vb 1 c).arrAt_in 1 rfl _).trans (hne c main_v1_1 (by decide)).symm
        · exact ((pd Va Vb 1 c).arrAt_in 2 rfl _).trans (hne c main_v2 (by decide)).symm
        · exact (h3 c).symm)
      (fun b hb => hne c b (fun h => hb (h ▸ Finset.mem_image.mpr ⟨3, Finset.mem_univ _, rfl⟩)))
    have hr := Entails.of_eq (unscopedRest1_eq (Ix := Unit) (Name := ℕ) (U := UU) (Lvl := ℕ) c (fun b => Vb c b)).symm
    iintro ⟨Ha, HO, H1, H0, H2, Hv0, Hv4, Hv5, Hv6⟩
    imodintro
    isplitr [HO]
    · iapply hjoin
      isplitl [Ha]; · iexact Ha
      iapply hr
      isplitl [H0]; · iexact H0
      isplitl [H1]; · iexact H1
      isplitl [H2]; · iexact H2
      isplitl [Hv0]; · iexact Hv0
      isplitl [Hv4]; · iexact Hv4
      isplitl [Hv5] <;> iassumption
    unfold Pipeline.Dat.owesAt Pipeline.owesWithin
    icases HO with ⟨%W, -, HO⟩; iexists W; iexact HO

end

section
variable (m : (ℓ : Loc nD τ sig) → Buf (Elt F) ℓ)

/-- What the first call leaves in its two results. -/
def outsA : Outs (F := F) := fun _ => Function.update (Function.update (fun r c => m ((c : Thread nD τ).loc r)) main_v1_0 (fun c => (dat0 c (V1 m c)).arrAt 1 cfg0.N))
  main_v1_1 (fun c => (dat0 c (V1 m c)).arrAt 2 cfg0.N)
/-- And what the second leaves in its own. -/
def outs : Outs (F := F) := fun J => Function.update (outsA m J) main_v3 (fun c => (dat1 c (V3 m (outsA m) c)).arrAt 3 cfg1.N)

theorem outs_v1_0 (c : Dev nD) : outs m 2 main_v1_0 c = (dat0 c (V1 m c)).arrAt 1 cfg0.N := by
  unfold outs outsA
  rw [Function.update_of_ne (by decide), Function.update_of_ne (by decide), Function.update_self]
theorem outs_v1_1 (c : Dev nD) : outs m 2 main_v1_1 c = (dat0 c (V1 m c)).arrAt 2 cfg0.N := by
  unfold outs outsA
  rw [Function.update_of_ne (by decide), Function.update_self]
theorem outs_eqA (r : Ref sig .tc) (h : r ≠ main_v3) : outs m 2 r = outsA m 2 r := by
  unfold outs; rw [Function.update_of_ne h]
theorem V2_outs (c : Dev nD) : V2 m (outs m) c = V2 m (outsA m) c := by
  unfold V2; rw [outs_eqA m main_v1_0 (by decide), outs_eqA m main_v1_1 (by decide)]
theorem V3_outs (c : Dev nD) : V3 m (outs m) c = V3 m (outsA m) c := by
  unfold V3; rw [V2_outs]
theorem outs_v3 (c : Dev nD) : outs m 4 main_v3 c = (dat1 c (V3 m (outs m) c)).arrAt 3 cfg1.N := by
  rw [V3_outs]; unfold outs; rw [Function.update_self]

theorem V2_v1_0 (c : Dev nD) : V2 m (outs m) c main_v1_0 = (dat0 c (V1 m c)).arrAt 1 cfg0.N := by
  rw [← outs_v1_0]; unfold V2
  rw [Function.update_of_ne (StableHlo.devRef_ne_of_ne (by decide)), Function.update_self]
theorem V2_v1_1 (c : Dev nD) : V2 m (outs m) c main_v1_1 = (dat0 c (V1 m c)).arrAt 2 cfg0.N := by
  rw [← outs_v1_1]; unfold V2
  rw [Function.update_self]
theorem V4_v3 (c : Dev nD) : V4 m (outs m) c main_v3 = (dat1 c (V3 m (outs m) c)).arrAt 3 cfg1.N := by
  rw [← outs_v3]; unfold V4
  rw [Function.update_self]

abbrev Va (c : Dev nD) : Valuation τ sig (Elt F) := V1 m c
abbrev Vb (c : Dev nD) : Valuation τ sig (Elt F) := V3 m (outs m) c

/-- The first call's segment at the launch's contents. -/
def R0 : RegionSeg (pcfgs (F := F)) adm (pd (Va m) (Vb m)) () defs₀ Variants.none L lv 0 :=
  reg0 (Va m) (Vb m) (V2 m (outs m)) (V2_v1_0 m) (V2_v1_1 m) fun c b h0 h1 => V2_of m (outs m) c b (by simp [h0, h1])
/-- The second call's. -/
def R1 : RegionSeg (pcfgs (F := F)) adm (pd (Va m) (Vb m)) () defs₀ Variants.none L lv 1 :=
  reg1 (Va m) (Vb m) (V4 m (outs m)) (V4_v3 m) fun c b h => V4_of m (outs m) c b (by simp [h])

/-- The launch's ghost state: the pipelines' cells and tickets. -/
def u₀ : UU := (initOf (Pipeline.cells cfgs cellOf_inj) (Pipeline.launchToks cfgs cellOf_inj), 1)

/-- What a final state holds: the arguments as launched, the results at the last valuation. -/
def Post (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2))
  ∧ s.mem ((c.tc : Thread nD τ).loc main_v4) = V5 m (outs m) c main_v4
  ∧ s.mem ((c.tc : Thread nD τ).loc main_v5) = V5 m (outs m) c main_v5
  ∧ s.mem ((c.tc : Thread nD τ).loc main_v6) = V5 m (outs m) c main_v6

set_option backward.isDefEq.respectTransparency.types false in
/-- At the compiled mesh, for any float values, from any memory with zero counters: every weakly fair execution ends,
    the arguments as launched, the results at the last valuation, every counter at zero. -/
theorem run_main (ρ : Dev nD → PrngReg) : θ_run defs (onTc (τ := τ) (main (F := F))) ⟨m, fun _ => 0, ρ⟩ (fun r => (∀ c : Dev nD, Post m c r.2) ∧ r.2.sem = fun _ => 0) := by
  refine Pipeline.θ_run_regions_kit_dev_sems (pcfgs (F := F)) adm (pd (Va m) (Vb m)) () cellOf_inj (embL) defs₀ Variants.none L lv m ρ main
    (segs m (outs m) Variants.none L lv (fun _ => dues) () (pd (Va m) (Vb m)) (R0 m) (R1 m))
    (fun c Q => by
      rewrite [main_chain c, Seg.run_eq_chain,
        show (segs m (outs m) Variants.none L lv (fun _ => dues) () (pd (Va m) (Vb m)) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun _ _ => rfl) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ dues c))
    (Tₙ := fun c => StableHlo.held (c : Thread nD τ) (Pipeline.ucRefs τ sig) (V5 m (outs m) c))
    (hch := fun c => ⟨.rfl, ?_, ?_, ?_, ?_, .rfl⟩)
    (hinit := ?_) (QY := fun c s => Post m c s)
    (hfin := fun c s' => ?_) (hQ := fun _ h hz => ⟨h, funext fun g => hz g (.inr (regions_no_unscoped g.2))⟩)
  · exact sep_mono (Entails.of_eq (Pipeline.unscopedBufs_held (Ix := Unit) (Name := ℕ) (U := UU) (Lvl := ℕ) c (V1 m c)).symm) .rfl
  · exact sep_mono (Entails.of_eq (Pipeline.unscopedBufs_held (Ix := Unit) (Name := ℕ) (U := UU) (Lvl := ℕ) c (V2 m (outs m) c))) .rfl
  · exact sep_mono (Entails.of_eq (Pipeline.unscopedBufs_held (Ix := Unit) (Name := ℕ) (U := UU) (Lvl := ℕ) c (V3 m (outs m) c)).symm) .rfl
  · exact sep_mono (Entails.of_eq (Pipeline.unscopedBufs_held (Ix := Unit) (Name := ℕ) (U := UU) (Lvl := ℕ) c (V4 m (outs m) c))) .rfl
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have g : ∀ b : Ref sig .tc, (Proc.devRef (τ := τ) .tc b).isScoped = false → s'.mem.mem ((c.tc : Thread nD τ).loc b) = V5 m (outs m) c b := fun b hb =>
        h (Proc.devRef .tc b) (Finset.mem_filter.mpr ⟨StableHlo.devRef_mem_tcRefs b, by simp [hb]⟩)
      exact ⟨⟨(g main_arg0 rfl).trans (V5_main_arg0 m (outs m) c), (g main_arg1 rfl).trans (V5_main_arg1 m (outs m) c), (g main_arg2 rfl).trans (V5_main_arg2 m (outs m) c)⟩,
        g main_v4 rfl, g main_v5 rfl, g main_v6 rfl⟩
    · iexact HSI

end

end Cert.Hand

end
-- ==== Proof.Had.lean ====
/-
  The two ways to rotate forty numbers: the kernel's trees of additions and subtractions, and the reference's sum over a
  row of the Hadamard matrix. Over finite numbers they agree; if one of the forty is infinite both results are infinite,
  in every one of the forty outputs.
-/
module

public import proofs.«01_k».proof.Proof.QuantTree
public import proofs.«01_k».proof.Proof.Gen.ReferenceIdeal.Run
public import Idealize.ShloMosaic.Lib.IdealHost
public import Idealize.ShloMosaic.PureOps.Ideal.Laws

@[expose] public section

set_option maxRecDepth 8192
set_option maxHeartbeats 4000000

noncomputable section

namespace Cert.Hand

open Idealize.ShloMosaic

/-- An infinite value. -/
def Inf (x : EReal) : Prop := x = ⊤ ∨ x = ⊥

theorem Inf.add_left {x : EReal} (h : Inf x) (y : EReal) : Inf (x + y) := by
  unfold Inf at *
  rcases h with rfl | rfl <;> induction y <;> simp

theorem Inf.add_right {y : EReal} (x : EReal) (h : Inf y) : Inf (x + y) := by
  rw [add_comm]; exact h.add_left x

theorem Inf.neg {x : EReal} (h : Inf x) : Inf (-x) := by
  unfold Inf at *
  rcases h with rfl | rfl <;> simp

theorem Inf.mul_coe {x : EReal} (h : Inf x) {r : ℝ} (hr : r ≠ 0) : Inf (x * (r : EReal)) := by
  unfold Inf at *
  rcases lt_or_gt_of_ne hr with hr | hr
  · rcases h with rfl | rfl
    · right; exact EReal.top_mul_coe_of_neg hr
    · left; exact EReal.bot_mul_coe_of_neg hr
  · rcases h with rfl | rfl
    · left; exact EReal.top_mul_coe_of_pos hr
    · right; exact EReal.bot_mul_coe_of_pos hr

theorem Inf.sum {ι : Type} [Fintype ι] [DecidableEq ι] (f : ι → EReal) (i : ι) (h : Inf (f i)) : Inf (∑ j, f j) := by
  rw [← Finset.add_sum_erase Finset.univ f (Finset.mem_univ i)]
  exact h.add_left _

theorem Inf.abs {x : EReal} (h : Inf x) : max x (-x) = ⊤ := by
  rcases h with rfl | rfl <;> simp

theorem not_inf {x : EReal} (h : ¬ Inf x) : ∃ r : ℝ, x = (r : EReal) := by
  unfold Inf at h
  induction x
  · simp at h
  · exact ⟨_, rfl⟩
  · simp at h

/-- The leaves of a tree. -/
def RT.leaves : RT → List Nat
  | .leaf i => [i]
  | .add a b => a.leaves ++ b.leaves
  | .sub a b => a.leaves ++ b.leaves

/-- The coefficient of leaf `j` in a tree. -/
def RT.coef (j : Nat) : RT → Int
  | .leaf i => if i = j then 1 else 0
  | .add a b => a.coef j + b.coef j
  | .sub a b => a.coef j - b.coef j

/-- A tree over the ideal values. -/
abbrev RT.ev (u : Nat → EReal) (t : RT) : EReal := t.eval (· + ·) (· - ·) u

/-- One infinite leaf makes a tree infinite. -/
theorem RT.ev_inf (u : Nat → EReal) (j : Nat) (h : Inf (u j)) : ∀ t : RT, j ∈ t.leaves → Inf (t.ev u)
  | .leaf i, hj => by
    have : j = i := by simpa [RT.leaves] using hj
    subst this; exact h
  | .add a b, hj => by
    rcases List.mem_append.mp hj with hj | hj
    · exact (RT.ev_inf u j h a hj).add_left _
    · exact (RT.ev_inf u j h b hj).add_right _
  | .sub a b, hj => by
    show Inf (RT.ev u a - RT.ev u b)
    rw [sub_eq_add_neg]
    rcases List.mem_append.mp hj with hj | hj
    · exact (RT.ev_inf u j h a hj).add_left _
    · exact (RT.ev_inf u j h b hj).neg.add_right _

/-- Over finite leaves a tree is its linear combination. -/
theorem RT.ev_fin (u : Nat → EReal) (r : Nat → ℝ) (n : Nat) (hu : ∀ i < n, u i = (r i : EReal)) :
    ∀ t : RT, (∀ i ∈ t.leaves, i < n) → t.ev u = ((∑ j : Fin n, (t.coef j : ℝ) * r j : ℝ) : EReal)
  | .leaf i, hl => by
    have hi : i < n := hl i (by simp [RT.leaves])
    show u i = _
    rw [hu i hi]
    congr 1
    rw [Finset.sum_eq_single (⟨i, hi⟩ : Fin n)]
    · simp [RT.coef]
    · intro j _ hj
      have : ¬ i = j.val := fun e => hj (Fin.ext e.symm)
      simp [RT.coef, this]
    · simp
  | .add a b, hl => by
    have ha := RT.ev_fin u r n hu a (fun i hi => hl i (List.mem_append_left _ hi))
    have hb := RT.ev_fin u r n hu b (fun i hi => hl i (List.mem_append_right _ hi))
    show RT.ev u a + RT.ev u b = _
    rw [ha, hb, ← EReal.coe_add, ← Finset.sum_add_distrib]
    congr 1; refine Finset.sum_congr rfl fun j _ => ?_
    simp only [RT.coef]; push_cast; ring
  | .sub a b, hl => by
    have ha := RT.ev_fin u r n hu a (fun i hi => hl i (List.mem_append_left _ hi))
    have hb := RT.ev_fin u r n hu b (fun i hi => hl i (List.mem_append_right _ hi))
    show RT.ev u a - RT.ev u b = _
    rw [ha, hb, ← EReal.coe_sub, ← Finset.sum_sub_distrib]
    congr 1; refine Finset.sum_congr rfl fun j _ => ?_
    simp only [RT.coef]; push_cast; ring

theorem rotT_leaves : ∀ j < 20, (∀ i < 20, i ∈ (rotT j).leaves) ∧ ∀ i ∈ (rotT j).leaves, i < 20 := by decide +kernel

/-- The entry the table holds for input head `s` and output head `g`, by the tree's coefficient. -/
def hcoef (s g : Nat) : Int := if 20 ≤ s ∧ 20 ≤ g then - (rotT (g % 20)).coef (s % 20) else (rotT (g % 20)).coef (s % 20)

theorem table_word : ∀ s < 40, ∀ g < 40,
    (Cert.ReferenceIdeal.lit0t (40 * s + g) = 0x3F800000#32 ∧ hcoef s g = 1)
      ∨ (Cert.ReferenceIdeal.lit0t (40 * s + g) = 0xBF800000#32 ∧ hcoef s g = -1) := by decide +kernel

theorem ofBits_neg_one_f32 : Ideal.ofBits .f32 0xBF800000#32 = ((-(1 : ℝ)) : EReal) := by
  simp [Ideal.ofBits, Ideal.ieee, -EReal.coe_mul, -EReal.coe_neg]; norm_num

/-- The table's entry as a number. -/
theorem table_val (s g : Nat) (hs : s < 40) (hg : g < 40) :
    Ideal.ofBits .f32 (Cert.ReferenceIdeal.lit0t (40 * s + g)) = (((hcoef s g : ℤ) : ℝ) : EReal) ∧ hcoef s g ≠ 0 := by
  rcases table_word s hs g hg with ⟨h, e⟩ | ⟨h, e⟩
  · rw [h, e, Ideal.ofBits_one_f32]; simp
  · rw [h, e, ofBits_neg_one_f32]; simp

/-- The normalisation is a positive number. -/
theorem norm_pos : ∃ r : ℝ, 0 < r ∧ Ideal.ofBits .f32 0x3E21E89B#32 = (r : EReal) := by
  refine ⟨10610843 / 67108864, by norm_num, ?_⟩
  simp [Ideal.ofBits, Ideal.ieee, -EReal.coe_mul]; norm_num

/-- The kernel's output head `g` of forty numbers, before the normalisation. -/
def treeRot (f : Nat → EReal) (g : Nat) : EReal :=
  (rotT (g % 20)).ev (fun i => bif Nat.ble 20 g then f i - f (i + 20) else f i + f (i + 20))

/-- The reference's. -/
def sumRot (f : Nat → EReal) (g : Nat) : EReal := ∑ s : Fin 40, Ideal.ofBits .f32 (Cert.ReferenceIdeal.lit0t (40 * s.val + g)) * f s

theorem treeRot_inf (f : Nat → EReal) (s g : Nat) (hs : s < 40) (h : Inf (f s)) : Inf (treeRot f g) := by
  have hj : g % 20 < 20 := Nat.mod_lt _ (by norm_num)
  refine RT.ev_inf _ (s % 20) ?_ _ ((rotT_leaves _ hj).1 _ (Nat.mod_lt _ (by norm_num)))
  have h' : Inf (f (s % 20)) ∨ Inf (f (s % 20 + 20)) := by
    rcases Nat.lt_or_ge s 20 with h20 | h20
    · left; rw [Nat.mod_eq_of_lt h20]; exact h
    · right; rw [show s % 20 + 20 = s by omega]; exact h
  cases Nat.ble 20 g
  · show Inf (f _ + f _)
    exact h'.elim (·.add_left _) (·.add_right _)
  · show Inf (f _ - f _)
    rw [sub_eq_add_neg]
    exact h'.elim (·.add_left _) (·.neg.add_right _)

theorem sumRot_inf (f : Nat → EReal) (s g : Nat) (hs : s < 40) (hg : g < 40) (h : Inf (f s)) : Inf (sumRot f g) := by
  refine Inf.sum _ (⟨s, hs⟩ : Fin 40) ?_
  obtain ⟨e, hne⟩ := table_val s g hs hg
  show Inf (Ideal.ofBits .f32 _ * f s)
  rw [e, mul_comm]
  exact h.mul_coe (by exact_mod_cast hne)

theorem rot_fin (f : Nat → EReal) (g : Nat) (hg : g < 40) (h : ∀ s < 40, ¬ Inf (f s)) : treeRot f g = sumRot f g := by
  choose! r hr using fun s hs => not_inf (h s hs)
  have hj : g % 20 < 20 := Nat.mod_lt _ (by norm_num)
  have hR : sumRot f g = ((∑ s : Fin 40, ((hcoef s g : ℤ) : ℝ) * r s : ℝ) : EReal) := by
    have : ∀ s : Fin 40, Ideal.ofBits .f32 (Cert.ReferenceIdeal.lit0t (40 * s.val + g)) * f s = ((((hcoef s g : ℤ) : ℝ) * r s : ℝ) : EReal) := by
      intro s
      rw [(table_val s g s.isLt hg).1, hr s s.isLt, ← EReal.coe_mul]
    unfold sumRot
    rw [Finset.sum_congr rfl fun s _ => this s]
    exact (map_sum (⟨⟨Real.toEReal, EReal.coe_zero⟩, EReal.coe_add⟩ : ℝ →+ EReal) _ _).symm
  rw [hR]
  unfold treeRot
  rw [RT.ev_fin _ (fun i => bif Nat.ble 20 g then r i - r (i + 20) else r i + r (i + 20)) 20 ?_ _ (rotT_leaves _ hj).2]
  · congr 1
    rw [show (40 : Nat) = 20 + 20 from rfl, Fin.sum_univ_add, ← Finset.sum_add_distrib]
    refine Finset.sum_congr rfl fun j _ => ?_
    have h1 : hcoef (Fin.castAdd 20 j : Fin 40).val g = (rotT (g % 20)).coef j := by
      unfold hcoef
      rw [if_neg (by have := j.isLt; rw [Fin.val_castAdd]; omega)]
      rw [Fin.val_castAdd, Nat.mod_eq_of_lt j.isLt]
    have h2 : hcoef (Fin.natAdd 20 j : Fin 40).val g = if 20 ≤ g then - (rotT (g % 20)).coef j else (rotT (g % 20)).coef j := by
      unfold hcoef
      have : (Fin.natAdd 20 j : Fin 40).val = 20 + j.val := rfl
      rw [this, show (20 + j.val) % 20 = j.val by omega]
      simp only [Nat.le_add_right, true_and]
    have e2 : (Fin.natAdd 20 j : Fin 40).val = j.val + 20 := Nat.add_comm _ _
    have e1 : (Fin.castAdd 20 j : Fin 40).val = j.val := rfl
    rw [h1, h2, e1, e2]
    by_cases hg20 : 20 ≤ g
    · rw [show Nat.ble 20 g = true from Nat.ble_eq.mpr hg20]
      simp only [cond_true, if_pos hg20]; push_cast; ring
    · rw [show Nat.ble 20 g = false from by rw [Bool.eq_false_iff, ne_eq, Nat.ble_eq]; exact hg20]
      simp only [cond_false, if_neg hg20]; ring
  · intro i hi
    have a := hr i (by omega)
    have b := hr (i + 20) (by omega)
    cases Nat.ble 20 g
    · show f _ + f _ = ((_ + _ : ℝ) : EReal)
      rw [a, b, EReal.coe_add]
    · show f _ - f _ = ((_ - _ : ℝ) : EReal)
      rw [a, b, EReal.coe_sub]

end Cert.Hand

end
-- ==== Proof.QuantValue.lean ====
/-
  One token's scale and codes over the ideal values: the kernel's block is read at an index, down to the trees of one
  row, and the two rotations are shown to give one scale and one set of codes.
-/
module

public import proofs.«01_k».proof.Proof.Had
public import proofs.«01_k».proof.Proof.QuantRun
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 8192
set_option maxHeartbeats 4000000

noncomputable section

namespace Cert.Hand

open Cert.KernelIdeal Cert.KernelIdeal.Gen
open Idealize.ShloMosaic Idealize.ShloMosaic.TcCoe Idealize.ShloMosaic.ValueIdx

/-! ## One row -/

/-- Head `s` of a row, at lane `l`. -/
def rowF (r : Fin 5120 → EReal) (l s : Nat) : EReal := r ⟨128 * (s % 40) + l % 128, by omega⟩

/-- The normalisation. -/
def nrm : EReal := Ideal.ofBits .f32 0x3E21E89B#32

/-- The rotated row, by the kernel's trees. -/
def zK (r : Fin 5120 → EReal) (g l : Nat) : EReal := treeRot (rowF r l) g * nrm

/-- The rotated row, by the reference's sums. -/
def zR (r : Fin 5120 → EReal) (g l : Nat) : EReal := sumRot (rowF r l) g * nrm

/-- The largest magnitude of a rotated row. -/
def amaxOf (z : Nat → Nat → EReal) : EReal := (Finset.univ : Finset (Fin 40 × Fin 128)).sup fun p => max (z p.1 p.2) (-(z p.1 p.2))

/-- The scale of a largest magnitude. -/
def scaleOf (a : EReal) : EReal :=
  Scalar.select (Ideal.cmp .oeq a (Ideal.ofBits .f32 0x00000000#32)) (Ideal.ofBits .f32 0x3F800000#32) (Ideal.div a (Ideal.ofBits .f32 0x40E00000#32))

/-- A scaled value, rounded and clipped. -/
def clipOf (s z : EReal) : EReal :=
  min ((((7#32 : BitVec 32).toInt : ℝ)) : EReal) (max ((((4294967289#32 : BitVec 32).toInt : ℝ)) : EReal) (Ideal.liftRound Ideal.roundHalfEven (Ideal.div z s)))

theorem le_amaxOf (z : Nat → Nat → EReal) (g l : Nat) (hg : g < 40) (hl : l < 128) : max (z g l) (-(z g l)) ≤ amaxOf z :=
  Finset.le_sup (f := fun p : Fin 40 × Fin 128 => max (z p.1 p.2) (-(z p.1 p.2))) (Finset.mem_univ (⟨⟨g, hg⟩, ⟨l, hl⟩⟩ : Fin 40 × Fin 128))

theorem amaxOf_congr {z z' : Nat → Nat → EReal} (h : ∀ g < 40, ∀ l < 128, z g l = z' g l) : amaxOf z = amaxOf z' :=
  Finset.sup_congr rfl fun p _ => by rw [h p.1 p.1.isLt p.2 p.2.isLt]

theorem amaxOf_inf (z : Nat → Nat → EReal) (g l : Nat) (hg : g < 40) (hl : l < 128) (h : Inf (z g l)) : amaxOf z = ⊤ :=
  top_le_iff.mp (h.abs ▸ le_amaxOf z g l hg hl)

theorem scaleOf_top : scaleOf ⊤ = ⊤ := by
  have h7 : Ideal.ofBits .f32 0x40E00000#32 = ((7 : ℝ) : EReal) := by
    simp [Ideal.ofBits, Ideal.ieee, -EReal.coe_mul]; norm_num
  have hc : Ideal.cmp .oeq ⊤ 0 = 0#1 := by simp [Ideal.cmp]
  unfold scaleOf
  rw [Ideal.ofBits_zero_f32, hc, select_zero, h7]
  unfold Ideal.div
  rw [if_neg (by norm_num), ← EReal.coe_inv]
  exact EReal.top_mul_coe_of_pos (by norm_num)

theorem div_top (z : EReal) : Ideal.div z ⊤ = 0 := by
  unfold Ideal.div
  rw [if_neg (by simp), EReal.inv_top, mul_zero]

theorem nrm_inf {x : EReal} (h : Inf x) : Inf (x * nrm) := by
  obtain ⟨r, hr, e⟩ := norm_pos
  unfold nrm; rw [e]; exact h.mul_coe hr.ne'

/-- Either the two rotations of a row agree, or both have largest magnitude `⊤`. -/
theorem rot_cases (r : Fin 5120 → EReal) :
    (∀ g < 40, ∀ l < 128, zK r g l = zR r g l) ∨ (amaxOf (zK r) = ⊤ ∧ amaxOf (zR r) = ⊤) := by
  by_cases h : ∀ l < 128, ∀ s < 40, ¬ Inf (rowF r l s)
  · left; intro g hg l hl
    unfold zK zR
    rw [rot_fin _ g hg (h l hl)]
  · right
    push Not at h
    obtain ⟨l, hl, s, hs, hi⟩ := h
    exact ⟨amaxOf_inf _ 0 l (by norm_num) hl (nrm_inf (treeRot_inf _ s 0 hs hi)),
      amaxOf_inf _ 0 l (by norm_num) hl (nrm_inf (sumRot_inf _ s 0 hs (by norm_num) hi))⟩

theorem amax_eq (r : Fin 5120 → EReal) : amaxOf (zK r) = amaxOf (zR r) := by
  rcases rot_cases r with h | ⟨h, h'⟩
  · exact amaxOf_congr h
  · rw [h, h']

theorem clip_eq (r : Fin 5120 → EReal) (g l : Nat) (hg : g < 40) (hl : l < 128) :
    clipOf (scaleOf (amaxOf (zK r))) (zK r g l) = clipOf (scaleOf (amaxOf (zR r))) (zR r g l) := by
  rw [amax_eq]
  rcases rot_cases r with h | ⟨h, h'⟩
  · rw [h g hg l hl]
  · rw [h', scaleOf_top]; unfold clipOf; rw [div_top, div_top]

/-- A clipped value converts to eight bits as to thirty-two and cut down. -/
theorem fptosi_clip (y : EReal) (s z : EReal) (hy : y = clipOf s z) : BitVec.setWidth 8 (Ideal.fptosi 32 y) = Ideal.fptosi 8 y := by
  have h1 : y ≤ ((7 : ℝ) : EReal) := by
    rw [hy]; refine (min_le_left _ _).trans ?_
    simp
  have h2 : ((-7 : ℝ) : EReal) ≤ y := by
    rw [hy]; refine le_min ?_ (le_trans ?_ (le_max_left _ _))
    · rw [EReal.coe_le_coe_iff]; simp
    · rw [EReal.coe_le_coe_iff]
      rw [show (4294967289#32 : BitVec 32).toInt = -7 by decide]; norm_num
  clear hy
  induction y with
  | bot => exact absurd h2 (by simp)
  | top => exact absurd h1 (by simp)
  | coe r =>
    rw [EReal.coe_le_coe_iff] at h1 h2
    have hn : ∃ n : ℤ, (if 0 ≤ r then ⌊r⌋ else ⌈r⌉) = n ∧ -7 ≤ n ∧ n ≤ 7 := by
      refine ⟨_, rfl, ?_, ?_⟩
      · split
        · exact Int.le_floor.mpr (by push_cast; exact h2)
        · exact_mod_cast (by push_cast; exact h2.trans (Int.le_ceil r) : ((-7 : ℤ) : ℝ) ≤ (⌈r⌉ : ℝ))
      · split
        · exact_mod_cast (by push_cast; exact (Int.floor_le r).trans h1 : (⌊r⌋ : ℝ) ≤ ((7 : ℤ) : ℝ))
        · exact Int.ceil_le.mpr (by push_cast; exact h1)
    obtain ⟨n, e, l, u⟩ := hn
    unfold Ideal.fptosi
    rw [Ideal.toIntClamped_coe, Ideal.toIntClamped_coe, e]
    interval_cases n <;> rfl

/-! ## The kernel's block -/

/-- A row of a block. -/
def rowOf {n : Nat} (x : Vec Ideal ⟨2, ![n, 5120]⟩ .bf16) (i : Fin n) : Fin 5120 → EReal := fun j => x (ix2 i j)

theorem eval_apply (u : Nat → FVec Ideal S8x128 .f32) (y : S8x128.Idx) : ∀ t : RT, t.eval addf subf u y = t.ev fun i => u i y
  | .leaf i => rfl
  | .add a b => congrArg₂ (· + ·) (eval_apply u y a) (eval_apply u y b)
  | .sub a b => congrArg₂ (· - ·) (eval_apply u y a) (eval_apply u y b)

theorem lfV_apply (x : Vec Ideal S256x5120 .bf16) (k : Fin k0_t1_loop.trips) (q h : Nat) (hq : q < 4) (i : Fin 8) (l : Fin 128)
    (ρ : Fin 256) (hρ : ρ.val = 32 * k.val + 8 * q + i.val) :
    lfV x k q h (ix2 i l) = rowF (rowOf x ρ) l h := by
  unfold lfV
  rw [shapeCast_self]
  show x _ = x _
  refine congrArg x (funext fun a => Fin.ext ?_)
  match a with
  | ⟨0, _⟩ =>
    show rowE k _ + 1 * (8 * (q % 2) + i.val) = ρ.val
    rw [rowE_q]; omega
  | ⟨1, _⟩ =>
    show 128 * (h % 40) + 1 * (0 + l.val) = 128 * (h % 40) + l.val % 128
    have := l.isLt
    omega

theorem zV_apply (x : Vec Ideal S256x5120 .bf16) (k : Fin k0_t1_loop.trips) (q g : Nat) (hq : q < 4) (i : Fin 8) (l : Fin 128)
    (ρ : Fin 256) (hρ : ρ.val = 32 * k.val + 8 * q + i.val) :
    zV x k q g (ix2 i l) = zK (rowOf x ρ) g l := by
  show RT.eval addf subf _ _ (ix2 i l) * _ = _
  rw [eval_apply]
  unfold zK treeRot
  refine congrArg₂ (· * ·) (congrArg (fun u => RT.ev u _) (funext fun j => ?_)) rfl
  unfold uV
  cases Nat.ble 20 g
  · show lfV x k q j (ix2 i l) + lfV x k q (j + 20) (ix2 i l) = _ + _
    rw [lfV_apply x k q _ hq i l ρ hρ, lfV_apply x k q _ hq i l ρ hρ]
  · show lfV x k q j (ix2 i l) - lfV x k q (j + 20) (ix2 i l) = _ - _
    rw [lfV_apply x k q _ hq i l ρ hρ, lfV_apply x k q _ hq i l ρ hρ]

theorem amaxV_apply (x : Vec Ideal S256x5120 .bf16) (k : Fin k0_t1_loop.trips) (q : Nat) (y : S8x128.Idx) :
    amaxV x k q y = (Finset.range 40).sup fun g => max (zV x k q g y) (-(zV x k q g y)) := by
  have hf : ∀ n : Nat, (List.range n).foldl (fun a g => maximumf a (absf (zV x k q (g + 1)))) (absf (zV x k q 0)) y
      = (Finset.range (n + 1)).sup fun g => max (zV x k q g y) (-(zV x k q g y)) := by
    intro n
    induction n with
    | zero => simp; rfl
    | succ n ih =>
      rw [List.range_succ, List.foldl_append, Finset.range_add_one, Finset.sup_insert, ← ih, sup_comm]
      rfl
  exact hf 39

theorem aV_apply (x : Vec Ideal S256x5120 .bf16) (k : Fin k0_t1_loop.trips) (q : Nat) (hq : q < 4) (i : Fin 8)
    (ρ : Fin 256) (hρ : ρ.val = 32 * k.val + 8 * q + i.val) :
    aV x k q (ix2 i 0) = amaxOf (zK (rowOf x ρ)) := by
  unfold aV
  refine (shapeCast_a_a1_apply _ _ i 0).trans ?_
  refine (Ideal.multiReduction_maximumf_single _ _ reduces_S8x128_S8 _ _ _).trans ?_
  have hl : ∀ l : Fin 128, (reduces_S8x128_S8 : S8x128.Reduces [1] S8).lift (ix1 i) l = ix2 i l := by
    intro l
    funext a; apply Fin.ext
    match a with
    | ⟨0, _⟩ => rfl
    | ⟨1, _⟩ => rfl
  have hb : (FloatOps.ofBits FTy.f32 0xFF800000#32 : Ideal .f32) = ⊥ := by
    show Ideal.ofBits .f32 _ = ⊥
    simp [Ideal.ofBits, Ideal.ieee]
  rw [hb]
  show (Finset.univ : Finset (Fin 128)).sup (fun l => amaxV x k q (Shape.Reduces.lift reduces_S8x128_S8 (ix1 i) l)) = _
  apply le_antisymm
  · refine Finset.sup_le fun l _ => ?_
    rw [hl, amaxV_apply]
    refine Finset.sup_le fun g hg => ?_
    rw [zV_apply x k q g hq i l ρ hρ]
    exact le_amaxOf _ g l (Finset.mem_range.mp hg) l.isLt
  · refine Finset.sup_le fun p _ => ?_
    refine le_trans ?_ (Finset.le_sup (Finset.mem_univ p.2))
    rw [hl, amaxV_apply]
    refine le_trans ?_ (Finset.le_sup (Finset.mem_range.mpr p.1.isLt))
    rw [zV_apply x k q p.1 hq i p.2 ρ hρ]

/-- The kernel's scale of a block's row. -/
theorem scaleBlk_apply (x : Vec Ideal S256x5120 .bf16) (ρ : Fin 256) :
    scaleBlk x (ix2 ρ 0) = scaleOf (amaxOf (zK (rowOf x ρ))) := by
  have := ρ.isLt
  show scaleOf (aV x (tripOf (ix2 ρ (0 : Fin 1))) (ρ.val % 32 / 8) (ix2 ⟨ρ.val % 32 % 8, _⟩ 0)) = _
  rw [aV_apply x _ _ (by omega) _ ρ (by show ρ.val = 32 * (ρ.val / 32) + 8 * (ρ.val % 32 / 8) + ρ.val % 32 % 8; omega)]

/-- The kernel's code of a block's row, at a column. -/
theorem codesBlk_apply (x : Vec Ideal S256x5120 .bf16) (ρ : Fin 256) (j : Fin 5120) :
    codesBlk x (ix2 ρ j) = Ideal.fptosi 8 (clipOf (scaleOf (amaxOf (zK (rowOf x ρ)))) (zK (rowOf x ρ) (j.val / 128) (j.val % 128))) := by
  have := ρ.isLt
  have := j.isLt
  have hz : zB x (tripOf (ix2 ρ j)) (ix2 ⟨ρ.val % 32, Nat.mod_lt _ (by decide)⟩ j) = zK (rowOf x ρ) (j.val / 128) (j.val % 128) := by
    show zV x _ (ρ.val % 32 / 8) (j.val / 128) (ix2 ⟨ρ.val % 32 % 8, _⟩ ⟨j.val % 128, _⟩) = _
    rw [zV_apply x _ _ _ (by omega) _ _ ρ (by show ρ.val = 32 * (ρ.val / 32) + 8 * (ρ.val % 32 / 8) + ρ.val % 32 % 8; omega)]
  have hs : broadcastTo S32x5120 (shapeCast S32x1 (sB x (tripOf (ix2 ρ j))) shapeCasts_S32x1_S32x1) broadcasts_S32x1_S32x5120 (ix2 ⟨ρ.val % 32, Nat.mod_lt _ (by decide)⟩ j)
      = scaleOf (amaxOf (zK (rowOf x ρ))) := by
    rw [shapeCast_self]
    rw [← scaleBlk_apply]
    refine (broadcastTo_apply _ _ _ (ix2 ⟨ρ.val % 32, Nat.mod_lt _ (by decide)⟩ 0) ?_).trans ?_
    · refine Fin.forall_fin_two.mpr ⟨?_, ?_⟩
      · rfl
      · rfl
    · rfl
  show Ideal.fptosi 8 (clipOf _ _) = _
  rw [← hz, ← hs]

end Cert.Hand

end
-- ==== Proof.ProjValue.lean ====
/-
  One element of the projection over the ideal values: the kernel's product over all columns, read at an index, is the sum
  of the product over the low nibbles and the product over the high ones.
-/
module

public import proofs.«01_k».proof.Proof.ProjRun
public import Idealize.ShloMosaic.Lib.ValueIdx
public import Idealize.ShloMosaic.Lib.IdealHost
public import Idealize.ShloMosaic.Lib.Pipeline.Value
public import Idealize.ShloMosaic.PureOps.Ideal.Laws

@[expose] public section

set_option maxRecDepth 8192
set_option maxHeartbeats 4000000

noncomputable section

namespace Cert.Hand

open Cert.KernelIdeal Cert.KernelIdeal.Gen
open Idealize.ShloMosaic Idealize.ShloMosaic.TcCoe Idealize.ShloMosaic.ValueIdx

/-- A nibble read as a signed number. -/
def sgn4 (v : BitVec 32) : EReal :=
  (((IntOp.subi v (IntOp.muli 16#32 ((IntOp.cmpi .sge v 8#32).setWidth 32))).toInt : ℝ) : EReal)

/-- The low nibble of a packed byte. -/
def wLo (b : BitVec 8) : EReal := sgn4 (IntOp.andi (b.setWidth 32) 15#32)

/-- The high nibble of a packed byte. -/
def wHi (b : BitVec 8) : EReal := sgn4 (IntOp.shrsi .vector (b.setWidth 32) 4#32)

/-- One element of the projection: a token's codes and scale, a row of packed weights and its scale. -/
def outOf (code : Fin 5120 → BitVec 8) (s : EReal) (p : Fin 2560 → BitVec 8) (ws : EReal) : EReal :=
  ((∑ k : Fin 2560, (((code ⟨k.val, by omega⟩).toInt : ℝ) : EReal) * wLo (p k))
    + ∑ k : Fin 2560, (((code ⟨2560 + k.val, by omega⟩).toInt : ℝ) : EReal) * wHi (p k)) * s * ws

/-- A contraction over one axis is a sum over its coordinate. -/
theorem sum_contr {sl sr so : Shape} (D : DotDims sl sr so) (n : Nat) (hr : D.contr.rank = 1)
    (hs : D.contr.size ⟨0, by omega⟩ = n) (f : D.contr.Idx → EReal) : ∑ k, f k = ∑ k : Fin n, f ((contrEquiv1 D n hr hs).symm k) :=
  (Equiv.sum_comp (contrEquiv1 D n hr hs).symm f).symm

theorem wMat_lo (P : Vec Ideal S5120x2560 .i8) (n : Fin 5120) (k : Fin 2560) (k' : Fin 5120) (hk : k'.val = k.val) :
    wMat P (ix2 n k') = wLo (P (ix2 n k)) := by
  have hn := n.isLt
  unfold wMat
  rw [dif_pos (show k'.val < 2560 by omega)]
  unfold k1_pay2
  rw [shapeCast_self]
  show wLo (P (ix2 ⟨128 * (n.val / 128) + n.val % 128, _⟩ ⟨k'.val, _⟩)) = _
  congr 2
  refine congrArg₂ ix2 (Fin.ext ?_) (Fin.ext hk)
  show 128 * (n.val / 128) + n.val % 128 = n.val; omega

theorem wMat_hi (P : Vec Ideal S5120x2560 .i8) (n : Fin 5120) (k : Fin 2560) (k' : Fin 5120) (hk : k'.val = 2560 + k.val) :
    wMat P (ix2 n k') = wHi (P (ix2 n k)) := by
  have hn := n.isLt
  unfold wMat
  rw [dif_neg (show ¬ k'.val < 2560 by omega)]
  unfold k1_pay3
  rw [shapeCast_self]
  show wHi (P (ix2 ⟨128 * (n.val / 128) + n.val % 128, _⟩ ⟨k'.val - 2560, _⟩)) = _
  congr 2
  refine congrArg₂ ix2 (Fin.ext ?_) (Fin.ext ?_)
  · show 128 * (n.val / 128) + n.val % 128 = n.val; omega
  · show k'.val - 2560 = k.val; omega

theorem pay4_apply (xc : Vec Ideal S256x5120 .i8) (s : Vec Ideal S256x1 .f32) (w : Vec Ideal S256x5120 .fp8e4m3) (ws : Vec Ideal S1x256 .f32)
    (i j : Fin 256) :
    k1_pay4 xc s w ws (ix2 i j)
      = (∑ k : Fin 5120, (((xc (ix2 i k)).toInt : ℝ) : EReal) * w (ix2 j k)) * s (ix2 i 0) * ws (ix2 0 j) := by
  unfold k1_pay4
  simp only [shapeCast_self]
  have hm : FloatOps.matmul (F := Ideal) (φ₁ := .fp8e4m3) (φ₂ := .fp8e4m3) dot_S256x5120_S256x5120_S256x256_1_1_0_0_n_n none (truncf .fp8e4m3 (sitofp .bf16 xc : FVec Ideal S256x5120 .bf16) bitsLt_fp8e4m3_bf16) (w : FVec Ideal S256x5120 .fp8e4m3)
        (constant S256x256 .f32 0x00000000#32) (ix2 i j)
      = ∑ k : Fin 5120, (((xc (ix2 i k)).toInt : ℝ) : EReal) * w (ix2 j k) := by
    rw [Ideal.matmul_apply, sum_contr dot_S256x5120_S256x5120_S256x256_1_1_0_0_n_n 5120 rfl rfl]
    rw [constant_apply, Ideal.ofBits_zero_f32, zero_add]
    refine Finset.sum_congr rfl fun k _ => ?_
    have hk := contrEquiv1_symm_val dot_S256x5120_S256x5120_S256x256_1_1_0_0_n_n 5120 rfl rfl k
    have el : dot_S256x5120_S256x5120_S256x256_1_1_0_0_n_n.lhsIdx (ix2 i j) ((contrEquiv1 dot_S256x5120_S256x5120_S256x256_1_1_0_0_n_n 5120 rfl rfl).symm k) = ix2 i k := by
      funext a; apply Fin.ext
      match a with
      | ⟨0, _⟩ => rfl
      | ⟨1, _⟩ => exact hk
    have er : dot_S256x5120_S256x5120_S256x256_1_1_0_0_n_n.rhsIdx (ix2 i j) ((contrEquiv1 dot_S256x5120_S256x5120_S256x256_1_1_0_0_n_n 5120 rfl rfl).symm k) = ix2 j k := by
      funext a; apply Fin.ext
      match a with
      | ⟨0, _⟩ => rfl
      | ⟨1, _⟩ => exact hk
    rw [el, er]
    rfl
  have h1 : broadcastTo S256x256 s broadcasts_S256x1_S256x256 (ix2 i j) = s (ix2 i 0) :=
    broadcastTo_apply _ _ _ _ (Fin.forall_fin_two.mpr ⟨rfl, rfl⟩)
  have h2 : broadcastTo S256x256 ws broadcasts_S1x256_S256x256 (ix2 i j) = ws (ix2 0 j) :=
    broadcastTo_apply _ _ _ _ (Fin.forall_fin_two.mpr ⟨rfl, rfl⟩)
  rw [← hm, ← h1, ← h2]
  rfl

/-- A sum over all columns is the sum over the left half and the sum over the right half. -/
theorem sum_halves (f : Fin 5120 → EReal) :
    ∑ k, f k = (∑ k : Fin 2560, f ⟨k.val, by omega⟩) + ∑ k : Fin 2560, f ⟨2560 + k.val, by omega⟩ :=
  Fin.sum_univ_add (a := 2560) (b := 2560) f

/-- The kernel's element of a block of the projection. -/
theorem outBlk_apply (xc : Vec Ideal S256x5120 .i8) (s : Vec Ideal S256x1 .f32) (P : Vec Ideal S5120x2560 .i8) (S : Vec Ideal S1x5120 .f32)
    (i : Fin 256) (n : Fin 5120) :
    outBlk xc s (wMat P) S (ix2 i n) = outOf (fun k => xc (ix2 i k)) (s (ix2 i 0)) (fun k => P (ix2 n k)) (S (ix2 0 n)) := by
  have hn := n.isLt
  have e : 256 * (n.val / 256) + n.val % 256 = n.val := by omega
  show k1_pay4 xc s (wRows (wMat P) ⟨n.val / 256, _⟩) (sRows S ⟨n.val / 256, _⟩) (ix2 i ⟨n.val % 256, _⟩) = _
  rw [pay4_apply]
  have hw : ∀ k : Fin 5120, wRows (wMat P) ⟨n.val / 256, by omega⟩ (ix2 ⟨n.val % 256, Nat.mod_lt _ (by decide)⟩ k) = wMat P (ix2 n k) := by
    intro k
    show wMat P (ix2 ⟨256 * (n.val / 256) + n.val % 256, _⟩ k) = _
    congr 2; exact Fin.ext e
  have hS : sRows S ⟨n.val / 256, by omega⟩ (ix2 0 ⟨n.val % 256, Nat.mod_lt _ (by decide)⟩) = S (ix2 0 n) := by
    show S (ix2 0 ⟨256 * (n.val / 256) + n.val % 256, _⟩) = _
    congr 2; exact Fin.ext e
  have hlo : ∀ k : Fin 2560, wMat P (ix2 n ⟨k.val, by omega⟩) = wLo (P (ix2 n k)) := fun k => wMat_lo P n k _ rfl
  have hhi : ∀ k : Fin 2560, wMat P (ix2 n ⟨2560 + k.val, by omega⟩) = wHi (P (ix2 n k)) := fun k => wMat_hi P n k _ rfl
  rw [hS, sum_halves]
  simp only [hw, hlo, hhi]
  rfl

end Cert.Hand

end
-- ==== Proof.Arrays.lean ====
/-
  What the two pallas_calls leave in their results over the ideal values, as functions of the arrays they read.
-/
module

public import proofs.«01_k».proof.Proof.QuantRegion
public import proofs.«01_k».proof.Proof.ProjRegion
public import proofs.«01_k».proof.Proof.QuantValue
public import proofs.«01_k».proof.Proof.ProjValue
public import Idealize.ShloMosaic.Lib.Pipeline.ValueKit

@[expose] public section

set_option maxRecDepth 8192
set_option maxHeartbeats 4000000

noncomputable section

namespace Cert.Hand

open Cert.KernelIdeal Cert.KernelIdeal.Gen
open Idealize.ShloMosaic hiding ix1 ix2 ix3
open Idealize.ShloMosaic.TcCoe Idealize.ShloMosaic.ValueIdx
open Idealize.ShloMosaic.Pipeline (Dat Cfg Window)

/-- A row's scale, as the kernel takes it. -/
def scaleK (r : Fin 5120 → EReal) : EReal := scaleOf (amaxOf (zK r))
/-- A row's code at a column, as the kernel takes it. -/
def codeK (r : Fin 5120 → EReal) (j : Nat) : BitVec 8 := Ideal.fptosi 8 (clipOf (scaleK r) (zK r (j / 128) (j % 128)))

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![t.val, 0] := (by decide +kernel : ∀ t : Fin grid0.N, _)
theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![t.val, 0] := (by decide +kernel : ∀ t : Fin grid1.N, _)

variable (c : Dev nD) (V : Valuation τ sig (Elt Ideal))

/-- The first call's input rows. -/
abbrev xArr : Vec Ideal S9216x5120 .bf16 := V main_v0

theorem row_xBlk (t : Fin cfg0.N) (ρ : Fin 256) (R : Fin 9216) (h : R.val = t.val * 256 + ρ.val) :
    rowOf (xBlk c V t) ρ = rowOf (xArr V) R := by
  funext j
  show xArr V (((cfg0.win 0).blk t).view.emb (ix2 ρ j)) = xArr V (ix2 R j)
  refine congrArg (xArr V) ?_
  funext a; apply Fin.ext
  match a with
  | ⟨0, _⟩ => blk_simp [idx0_0]; exact h.symm
  | ⟨1, _⟩ => blk_simp [idx0_0]

/-- The first call's codes. -/
theorem codes_arr : (dat0 c V).arrAt 1 cfg0.N = ((fun i => codeK (rowOf (xArr V) (i 0)) (i 1).val) : Vec Ideal S9216x5120 .i8) := by
  refine (dat0 c V).arrAt_eq_of_covers 1 _ (by decide +kernel) fun t hf y => ?_
  blk_simp [idx0_1]
  have h0 : rowOf (xBlk c V t) (y 0) = rowOf (xArr V) ((win0_1.blk t).view.emb y 0) := row_xBlk c V t _ _ (by blk_simp [idx0_1])
  rw [← h0]
  exact (congrArg (codesBlk (xBlk c V t)) (ValueIdx.eq_ix2 (n0 := 256) (n1 := 5120) y)).trans (codesBlk_apply (xBlk c V t) (y 0) (y 1))

/-- The first call's scales. -/
theorem scales_arr : (dat0 c V).arrAt 2 cfg0.N = ((fun i => scaleK (rowOf (xArr V) (i 0))) : Vec Ideal S9216x1 .f32) := by
  refine (dat0 c V).arrAt_eq_of_covers 2 _ (by decide +kernel) fun t hf y => ?_
  blk_simp [idx0_2]
  have h0 : rowOf (xBlk c V t) (y 0) = rowOf (xArr V) ((win0_2.blk t).view.emb y 0) := row_xBlk c V t _ _ (by blk_simp [idx0_2])
  rw [← h0]
  have hy : y = ix2 (y 0) (0 : Fin 1) := by
    funext a
    match a with
    | ⟨0, _⟩ => rfl
    | ⟨1, _⟩ => exact Subsingleton.elim (α := Fin 1) _ _
  exact (congrArg (scaleBlk (xBlk c V t)) hy).trans (scaleBlk_apply (xBlk c V t) (y 0))

/-- The second call's codes, scales and weights' scales. -/
abbrev qArr : Vec Ideal S9216x5120 .i8 := V main_v1_0
abbrev sArr : Vec Ideal S9216x1 .f32 := V main_v1_1
abbrev wsArr : Vec Ideal S1x5120 .f32 := V main_v2

theorem at_cBlk (t : Fin cfg1.N) (ρ : Fin 256) (R : Fin 9216) (h : R.val = t.val * 256 + ρ.val) (k : Fin 5120) :
    cBlk1 c V t (ix2 ρ k) = qArr V (ix2 R k) := by
  show qArr V (((cfg1.win 0).blk t).view.emb (ix2 ρ k)) = _
  refine congrArg (qArr V) ?_
  funext a; apply Fin.ext
  match a with
  | ⟨0, _⟩ => blk_simp [idx1_0]; exact h.symm
  | ⟨1, _⟩ => blk_simp [idx1_0]

theorem at_sBlk (t : Fin cfg1.N) (ρ : Fin 256) (R : Fin 9216) (h : R.val = t.val * 256 + ρ.val) :
    sBlk1 c V t (ix2 ρ (0 : Fin 1)) = sArr V (ix2 R (0 : Fin 1)) := by
  show sArr V (((cfg1.win 1).blk t).view.emb (ix2 ρ (0 : Fin 1))) = _
  refine congrArg (sArr V) ?_
  funext a; apply Fin.ext
  match a with
  | ⟨0, _⟩ => blk_simp [idx1_1]; exact h.symm
  | ⟨1, _⟩ => blk_simp [idx1_1]

theorem at_wsBlk (n : Fin 5120) : wsBlk1 c V (ix2 (0 : Fin 1) n) = wsArr V (ix2 (0 : Fin 1) n) := by
  show wsArr V (((cfg1.win 2).blk p0).view.emb (ix2 (0 : Fin 1) n)) = _
  refine congrArg (wsArr V) ?_
  funext a; apply Fin.ext
  match a with
  | ⟨0, _⟩ => blk_simp [idx1_2]
  | ⟨1, _⟩ => blk_simp [idx1_2]

/-- An element of the projection, of the codes, scales, packed weights and their scales. -/
def outK (q : Vec Ideal S9216x5120 .i8) (s : Vec Ideal S9216x1 .f32) (P : Vec Ideal S5120x2560 .i8) (ws : Vec Ideal S1x5120 .f32) (R : Fin 9216) (n : Fin 5120) : EReal :=
  outOf (fun k => q (ix2 R k)) (s (ix2 R (0 : Fin 1))) (fun k => P (ix2 n k)) (ws (ix2 (0 : Fin 1) n))

/-- The second call's projection. -/
theorem out_arr : (dat1 c V).arrAt 3 cfg1.N
    = ((fun i => outK (qArr V) (sArr V) (pArr V) (wsArr V) (i 0) (i 1)) : Vec Ideal S9216x5120 .bf16) := by
  refine (dat1 c V).arrAt_eq_of_covers 3 _ (by decide +kernel) fun t hf y => ?_
  blk_simp [idx1_3]
  have hR : ((win1_3.blk t).view.emb y 0).val = t.val * 256 + (y 0).val := by blk_simp [idx1_3]
  have hn : (win1_3.blk t).view.emb y 1 = y 1 := Fin.ext (by blk_simp [idx1_3])
  refine (congrArg (outBlk (cBlk1 c V t) (sBlk1 c V t) (wMat (pArr V)) (wsBlk1 c V)) (ValueIdx.eq_ix2 (n0 := 256) (n1 := 5120) y)).trans ?_
  rw [hn]
  refine (outBlk_apply (cBlk1 c V t) (sBlk1 c V t) (pArr V) (wsBlk1 c V) (y 0) (y 1)).trans ?_
  have e0 : (fun k => cBlk1 c V t (ix2 (y 0) k)) = fun k => qArr V (ix2 ((win1_3.blk t).view.emb y 0) k) := funext fun k => at_cBlk c V t _ _ hR k
  have e1 : sBlk1 c V t (ix2 (y 0) (0 : Fin 1)) = sArr V (ix2 ((win1_3.blk t).view.emb y 0) (0 : Fin 1)) := at_sBlk c V t _ _ hR
  have e2 : wsBlk1 c V (ix2 (0 : Fin 1) (y 1)) = wsArr V (ix2 (0 : Fin 1) (y 1)) := at_wsBlk c V (y 1)
  unfold outK
  exact congr (congr (congr (congrArg outOf e0) e1) rfl) e2

end Cert.Hand

end
-- ==== Proof.RefTerms.lean ====
/-
  The reference's three results over the ideal values, as terms of its arguments.
-/
module

public import proofs.«01_k».proof.Proof.Gen.ReferenceIdeal.Run
public import Idealize.ShloMosaic.Lib.ValueIdx

@[expose] public section

set_option maxRecDepth 8192
set_option maxHeartbeats 4000000

noncomputable section

namespace Cert.Hand.Ref

open Cert.ReferenceIdeal Cert.ReferenceIdeal.Gen
open Idealize.ShloMosaic Idealize.ShloMosaic.TcCoe Idealize.ShloMosaic.ValueIdx Idealize.SL.Sem

/-! ## The reference's terms -/

/-- The rotated activations. -/
def zArr (x : Vec Ideal S12x768x5120 .bf16) : FVec Ideal S12x768x5120 .f32 :=
  shapeCast _ (mulf (transpose S12x768x40x128 [1, 2, 0, 3] (Host.dotGeneral dot_S40x40_S12x768x40x128_S40x12x768x128_0_2_1_013_n_n (some .fp32) ((fun i => FloatOps.ofBits .f32 (lit0 (S40x40.rowMajor i))) : FVec Ideal S40x40 .f32) (extf .f32 (shapeCast _ x shapeCasts_S12x768x5120_S12x768x40x128) bitsLt_bf16_f32)) transposes_S40x12x768x128_S12x768x40x128_1_2_0_3) (broadcastInDim S12x768x40x128 ![] bcast_S_S12x768x40x128 (constant S_ .f32 0x3E21E89B#32))) shapeCasts_S12x768x40x128_S12x768x5120

/-- The tokens' largest magnitudes. -/
def amaxArr (x : Vec Ideal S12x768x5120 .bf16) : FVec Ideal S12x768 .f32 :=
  Host.reduce FloatOps.maximumf (Host.absf (zArr x)) (constant S_ .f32 0xFF800000#32) reducesTo_S12x768x5120_S12x768_d2 h_S_

/-- The tokens' scales. -/
def scaleArr (x : Vec Ideal S12x768x5120 .bf16) : FVec Ideal S12x768 .f32 :=
  select (cmpf .oeq (amaxArr x) (broadcastInDim S12x768 ![] bcast_S_S12x768 (constant S_ .f32 0x00000000#32))) (broadcastInDim S12x768 ![] bcast_S_S12x768 (constant S_ .f32 0x3F800000#32)) (Host.divf (amaxArr x) (broadcastInDim S12x768 ![] bcast_S_S12x768 (constant S_ .f32 0x40E00000#32)))

/-- The tokens' codes. -/
def codeArr (x : Vec Ideal S12x768x5120 .bf16) : IVec S12x768x5120 8 :=
  trunci 8 (fptosi 32 (minimumf (broadcastInDim S12x768x5120 ![] bcast_S_S12x768x5120 (sitofp .f32 (constantI S_ 32 7#32))) (maximumf (broadcastInDim S12x768x5120 ![] bcast_S_S12x768x5120 (sitofp .f32 (constantI S_ 32 4294967289#32))) (Host.roundeven (Host.divf (zArr x) (broadcastInDim S12x768x5120 ![0, 1, 2] bcast_S12x768x1_S12x768x5120_0_1_2 (broadcastInDim S12x768x1 ![0, 1] bcast_S12x768_S12x768x1_0_1 (scaleArr x)))))))) natLt_8_32

/-- A nibble array as signed numbers. -/
def sgnArr (v : IVec S5120x2560 32) : FVec Ideal S5120x2560 .bf16 :=
  sitofp .bf16 (subi v (id (muli (broadcastInDim S5120x2560 ![] bcast_S_S5120x2560 (constantI S_ 32 16#32)) (extui 32 (cmpi .sge v (broadcastInDim S5120x2560 ![] bcast_S_S5120x2560 (constantI S_ 32 8#32))) natLt_1_32))))

/-- The low nibbles. -/
def loArr (P : Vec Ideal S5120x2560 .i8) : FVec Ideal S5120x2560 .bf16 :=
  sgnArr (andi (extui 32 P natLt_8_32) (broadcastInDim S5120x2560 ![] bcast_S_S5120x2560 (constantI S_ 32 15#32)))

/-- The high nibbles. -/
def hiArr (P : Vec Ideal S5120x2560 .i8) : FVec Ideal S5120x2560 .bf16 :=
  sgnArr (Host.shrsi (extui 32 P natLt_8_32) (broadcastInDim S5120x2560 ![] bcast_S_S5120x2560 (constantI S_ 32 4#32)))

/-- The projection, of codes, scales, packed weights and their scales. -/
def outArr (q : IVec S12x768x5120 8) (s : FVec Ideal S12x768 .f32) (P : Vec Ideal S5120x2560 .i8) (ws : Vec Ideal S5120 .f32) : FVec Ideal S12x768x5120 .bf16 :=
  truncf .bf16 (mulf (mulf (addf
      (Host.dotGeneral dot_S12x768x2560_S5120x2560_S12x768x5120_2_1_01_0_n_n none (extractStridedSlice S12x768x2560 ![0, 0, 0] (sitofp .bf16 (extsi 32 q natLt_8_32) : FVec Ideal S12x768x5120 .bf16) slices_S12x768x5120_S12x768x2560_0_0_0) (loArr P))
      (Host.dotGeneral dot_S12x768x2560_S5120x2560_S12x768x5120_2_1_01_0_n_n none (extractStridedSlice S12x768x2560 ![0, 0, 2560] (sitofp .bf16 (extsi 32 q natLt_8_32) : FVec Ideal S12x768x5120 .bf16) slices_S12x768x5120_S12x768x2560_0_0_2560) (hiArr P)))
      (broadcastInDim S12x768x5120 ![0, 1, 2] bcast_S12x768x1_S12x768x5120_0_1_2 (broadcastInDim S12x768x1 ![0, 1] bcast_S12x768_S12x768x1_0_1 s)))
      (broadcastInDim S12x768x5120 ![0, 1, 2] bcast_S1x1x5120_S12x768x5120_0_1_2 (broadcastInDim S1x1x5120 ![2] bcast_S5120_S1x1x5120_2 ws))) bitsLt_bf16_f32

theorem out_eq (m : (ℓ : Loc nD τ sig) → Buf (Elt Ideal) ℓ) (c : Dev nD) :
    Cert.ReferenceIdeal.Value.res_main_v56 m c
      = outArr (codeArr (m ((c.tc : Thread nD τ).loc main_arg0))) (scaleArr (m ((c.tc : Thread nD τ).loc main_arg0))) (m ((c.tc : Thread nD τ).loc main_arg1)) (m ((c.tc : Thread nD τ).loc main_arg2)) := by
  simp only [Cert.ReferenceIdeal.Value.res_main_v56, outArr, codeArr, scaleArr, amaxArr, zArr, loArr, hiArr, sgnArr, id_eq]

/-- The reference's run: its results are these terms, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v56)
          = outArr (codeArr (m ((c.tc : Thread nD τ).loc main_arg0))) (scaleArr (m ((c.tc : Thread nD τ).loc main_arg0))) (m ((c.tc : Thread nD τ).loc main_arg1)) (m ((c.tc : Thread nD τ).loc main_arg2))
      ∧ r.2.mem ((c.tc : Thread nD τ).loc main_v21_0) = codeArr (m ((c.tc : Thread nD τ).loc main_arg0))
      ∧ r.2.mem ((c.tc : Thread nD τ).loc main_v21_1) = scaleArr (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨(h c).1.trans (out_eq m c),
      (h c).2.1.trans (by simp only [codeArr, scaleArr, amaxArr, zArr, id_eq]),
      (h c).2.2.1.trans (by simp only [scaleArr, amaxArr, zArr, id_eq]),
      (h c).2.2.2⟩)
    (Cert.ReferenceIdeal.Value.run (F := Ideal) m ρ)

end Cert.Hand.Ref

end
-- ==== Proof.RefValue.lean ====
/-
  The reference's three results over the ideal values, read at an index: a token's scale, its codes, and an element of
  the projection.
-/
module

public import proofs.«01_k».proof.Proof.RefTerms
public import proofs.«01_k».proof.Proof.QuantValue
public import proofs.«01_k».proof.Proof.ProjValue
public import Idealize.ShloMosaic.Lib.KernelVsHost

@[expose] public section

set_option maxRecDepth 8192
set_option maxHeartbeats 4000000

noncomputable section

namespace Cert.Hand.Ref

open Cert.ReferenceIdeal Cert.ReferenceIdeal.Gen
open Idealize.ShloMosaic Idealize.ShloMosaic.TcCoe Idealize.ShloMosaic.ValueIdx

/-! ## At an index -/

/-- A token's row. -/
def rowR (x : Vec Ideal S12x768x5120 .bf16) (a : Fin 12) (b : Fin 768) : Fin 5120 → EReal := fun j => x (ix3 a b j)

theorem zArr_apply (x : Vec Ideal S12x768x5120 .bf16) (a : Fin 12) (b : Fin 768) (j : Fin 5120) :
    zArr x (ix3 a b j) = zR (rowR x a b) (j.val / 128) (j.val % 128) := by
  have hj := j.isLt
  unfold zArr
  rw [shapeCast_apply _ _ _ (ix4 a b (⟨j.val / 128, by omega⟩ : Fin 40) (⟨j.val % 128, by omega⟩ : Fin 128)) (by
    rw [Shape.rowMajor_val_four, Shape.rowMajor_val_three]
    show ((a.val * 768 + b.val) * 40 + j.val / 128) * 128 + j.val % 128 = (a.val * 768 + b.val) * 5120 + j.val
    omega)]
  rw [mulf_apply]
  refine congrArg₂ (· * ·) ?_ rfl
  rw [transpose_apply _ _ _ _ (ix4 (⟨j.val / 128, by omega⟩ : Fin 40) a b (⟨j.val % 128, by omega⟩ : Fin 128)) (by
    intro q
    match q with
    | ⟨0, _⟩ => rfl
    | ⟨1, _⟩ => rfl
    | ⟨2, _⟩ => rfl
    | ⟨3, _⟩ => rfl)]
  refine (Ideal.dotGeneral_apply _ _ _ _ _ _).trans ?_
  rw [sum_contr dot_S40x40_S12x768x40x128_S40x12x768x128_0_2_1_013_n_n 40 rfl rfl]
  unfold sumRot
  refine Finset.sum_congr rfl fun s _ => ?_
  have hk := contrEquiv1_symm_val dot_S40x40_S12x768x40x128_S40x12x768x128_0_2_1_013_n_n 40 rfl rfl s
  have el : dot_S40x40_S12x768x40x128_S40x12x768x128_0_2_1_013_n_n.lhsIdx (ix4 (⟨j.val / 128, by omega⟩ : Fin 40) a b (⟨j.val % 128, by omega⟩ : Fin 128))
      ((contrEquiv1 dot_S40x40_S12x768x40x128_S40x12x768x128_0_2_1_013_n_n 40 rfl rfl).symm s) = ix2 s ⟨j.val / 128, by omega⟩ := by
    funext a; apply Fin.ext
    match a with
    | ⟨0, _⟩ => exact hk
    | ⟨1, _⟩ => rfl
  have er : dot_S40x40_S12x768x40x128_S40x12x768x128_0_2_1_013_n_n.rhsIdx (ix4 (⟨j.val / 128, by omega⟩ : Fin 40) a b (⟨j.val % 128, by omega⟩ : Fin 128))
      ((contrEquiv1 dot_S40x40_S12x768x40x128_S40x12x768x128_0_2_1_013_n_n 40 rfl rfl).symm s) = ix4 a b s ⟨j.val % 128, by omega⟩ := by
    funext a; apply Fin.ext
    match a with
    | ⟨0, _⟩ => rfl
    | ⟨1, _⟩ => rfl
    | ⟨2, _⟩ => exact hk
    | ⟨3, _⟩ => rfl
  rw [el, er]
  refine congrArg₂ (· * ·) ?_ ?_
  · have e : (S40x40.rowMajor (ix2 s (⟨j.val / 128, by omega⟩ : Fin 40))).val = 40 * s.val + j.val / 128 := by
      rw [Shape.rowMajor_val_two]
      show s.val * 40 + j.val / 128 = _
      omega
    exact congrArg (fun n => Ideal.ofBits .f32 (lit0t n)) e
  · rw [extf_apply, shapeCast_apply _ _ _ (ix3 a b (⟨128 * (s.val % 40) + j.val % 128 % 128, by omega⟩ : Fin 5120)) (by
      rw [Shape.rowMajor_val_four, Shape.rowMajor_val_three]
      have := s.isLt
      show (a.val * 768 + b.val) * 5120 + (128 * (s.val % 40) + j.val % 128 % 128) = ((a.val * 768 + b.val) * 40 + s.val) * 128 + j.val % 128
      omega)]
    rfl

/-- A magnitude, at an index. -/
theorem absf_at {s : Shape} (Z : FVec Ideal s .f32) (i : s.Idx) : Host.absf Z i = max (Z i) (-(Z i)) := rfl

/-- A rounded and narrowed value, at an index. -/
theorem codes_at {s : Shape} (u v w : FVec Ideal s .f32) (h : 8 < 32) (i : s.Idx) :
    trunci 8 (fptosi 32 (minimumf u (maximumf v (Host.roundeven w)))) h i
      = BitVec.setWidth 8 (Ideal.fptosi 32 (min (u i) (max (v i) (Ideal.liftRound Ideal.roundHalfEven (w i))))) := rfl

theorem redTok : S12x768x5120.Reduces [2] S12x768 := by decide

theorem redTok_lift (a : Fin 12) (b : Fin 768) (k : Fin 5120) : redTok.lift (ix2 a b) k = ix3 a b k := by
  funext q; apply Fin.ext
  match q with
  | ⟨0, _⟩ => rfl
  | ⟨1, _⟩ => rfl
  | ⟨2, _⟩ => rfl

theorem hostMax_apply (Z : FVec Ideal S12x768x5120 .f32) (a : Fin 12) (b : Fin 768) :
    Host.reduce FloatOps.maximumf Z (constant S_ .f32 0xFF800000#32) reducesTo_S12x768x5120_S12x768_d2 h_S_ (ix2 a b)
      = (Finset.univ : Finset (Fin 5120)).sup (fun k => Z (ix3 a b k)) := by
  have hb : (FloatOps.ofBits FTy.f32 0xFF800000#32 : Ideal .f32) = ⊥ := by
    show Ideal.ofBits .f32 _ = ⊥
    simp [Ideal.ofBits, Ideal.ieee]
  have h1 := hostReduce_maximumf_eq_multiReduction (F := Ideal) (φ := .f32) Z 0xFF800000#32 reducesTo_S12x768x5120_S12x768_d2 h_S_ redTok (.inl rfl) rfl
  have h2 := Ideal.multiReduction_maximumf_single (φ := .f32) Z 0xFF800000#32 redTok (.inl rfl) rfl (ix2 a b)
  rw [h1, h2, hb]
  have h3 : Z ∘ redTok.lift (ix2 a b) = fun k : Fin 5120 => Z (ix3 a b k) := funext fun k => congrArg Z (redTok_lift a b k)
  rw [h3]
  rfl

/-- The largest magnitude over all columns is the largest over the groups and their lanes. -/
theorem sup_flat (z : Nat → Nat → EReal) :
    (Finset.univ : Finset (Fin 5120)).sup (fun k => max (z (k.val / 128) (k.val % 128)) (-(z (k.val / 128) (k.val % 128)))) = amaxOf z := by
  apply le_antisymm
  · refine Finset.sup_le fun k _ => ?_
    have := k.isLt
    exact le_amaxOf _ _ _ (by omega) (by omega)
  · unfold amaxOf
    refine Finset.sup_le fun p _ => ?_
    have h0 := p.1.isLt
    have h1 := p.2.isLt
    have h := Finset.le_sup (f := fun k : Fin 5120 => max (z (k.val / 128) (k.val % 128)) (-(z (k.val / 128) (k.val % 128))))
      (Finset.mem_univ (⟨128 * p.1.val + p.2.val, by omega⟩ : Fin 5120))
    dsimp only at h
    rwa [show (128 * p.1.val + p.2.val) / 128 = p.1.val by omega, show (128 * p.1.val + p.2.val) % 128 = p.2.val by omega] at h

theorem amaxArr_apply (x : Vec Ideal S12x768x5120 .bf16) (a : Fin 12) (b : Fin 768) :
    amaxArr x (ix2 a b) = amaxOf (zR (rowR x a b)) := by
  unfold amaxArr
  rw [hostMax_apply, ← sup_flat]
  refine congrArg (Finset.univ : Finset (Fin 5120)).sup (funext fun k => ?_)
  rw [absf_at, zArr_apply]

theorem scaleArr_apply (x : Vec Ideal S12x768x5120 .bf16) (a : Fin 12) (b : Fin 768) :
    scaleArr x (ix2 a b) = scaleOf (amaxOf (zR (rowR x a b))) := by
  unfold scaleArr
  rw [select_apply, cmpf_apply, hostDivf_apply, broadcastInDim_scalar_apply, broadcastInDim_scalar_apply, broadcastInDim_scalar_apply, amaxArr_apply]
  rfl

/-- A per-token value broadcast along the columns. -/
theorem bcast_token (s : FVec Ideal S12x768 .f32) (a : Fin 12) (b : Fin 768) (j : Fin 5120) :
    broadcastInDim S12x768x5120 ![0, 1, 2] bcast_S12x768x1_S12x768x5120_0_1_2 (broadcastInDim S12x768x1 ![0, 1] bcast_S12x768_S12x768x1_0_1 s) (ix3 a b j) = s (ix2 a b) := by
  rw [broadcastInDim_apply _ _ _ _ (ix3 a b (0 : Fin 1)) (by
    intro q
    match q with
    | ⟨0, _⟩ => rfl
    | ⟨1, _⟩ => rfl
    | ⟨2, _⟩ => rfl)]
  rw [broadcastInDim_apply _ _ _ _ (ix2 a b) (Fin.forall_fin_two.mpr ⟨rfl, rfl⟩)]

theorem codeArr_apply (x : Vec Ideal S12x768x5120 .bf16) (a : Fin 12) (b : Fin 768) (j : Fin 5120) :
    codeArr x (ix3 a b j) = Ideal.fptosi 8 (clipOf (scaleOf (amaxOf (zR (rowR x a b)))) (zR (rowR x a b) (j.val / 128) (j.val % 128))) := by
  unfold codeArr
  rw [codes_at, hostDivf_apply, broadcastInDim_scalar_apply, broadcastInDim_scalar_apply, bcast_token, zArr_apply, scaleArr_apply]
  exact fptosi_clip _ _ _ rfl

theorem outArr_apply (q : IVec S12x768x5120 8) (s : FVec Ideal S12x768 .f32) (P : Vec Ideal S5120x2560 .i8) (ws : Vec Ideal S5120 .f32)
    (a : Fin 12) (b : Fin 768) (n : Fin 5120) :
    outArr q s P ws (ix3 a b n) = outOf (fun k => q (ix3 a b k)) (s (ix2 a b)) (fun k => P (ix2 n k)) (ws (ix1 n)) := by
  have hd : ∀ (l : FVec Ideal S12x768x2560 .bf16) (r : FVec Ideal S5120x2560 .bf16),
      Host.dotGeneral dot_S12x768x2560_S5120x2560_S12x768x5120_2_1_01_0_n_n none l r (ix3 a b n) = ∑ k : Fin 2560, l (ix3 a b k) * r (ix2 n k) := by
    intro l r
    refine (Ideal.dotGeneral_apply dot_S12x768x2560_S5120x2560_S12x768x5120_2_1_01_0_n_n none .single l r (ix3 a b n)).trans ?_
    rw [sum_contr dot_S12x768x2560_S5120x2560_S12x768x5120_2_1_01_0_n_n 2560 rfl rfl]
    refine Finset.sum_congr rfl fun k _ => ?_
    have hk := contrEquiv1_symm_val dot_S12x768x2560_S5120x2560_S12x768x5120_2_1_01_0_n_n 2560 rfl rfl k
    have el : dot_S12x768x2560_S5120x2560_S12x768x5120_2_1_01_0_n_n.lhsIdx (ix3 a b n) ((contrEquiv1 dot_S12x768x2560_S5120x2560_S12x768x5120_2_1_01_0_n_n 2560 rfl rfl).symm k) = ix3 a b k := by
      funext a; apply Fin.ext
      match a with
      | ⟨0, _⟩ => rfl
      | ⟨1, _⟩ => rfl
      | ⟨2, _⟩ => exact hk
    have er : dot_S12x768x2560_S5120x2560_S12x768x5120_2_1_01_0_n_n.rhsIdx (ix3 a b n) ((contrEquiv1 dot_S12x768x2560_S5120x2560_S12x768x5120_2_1_01_0_n_n 2560 rfl rfl).symm k) = ix2 n k := by
      funext a; apply Fin.ext
      match a with
      | ⟨0, _⟩ => rfl
      | ⟨1, _⟩ => exact hk
    rw [el, er]
  have hw : broadcastInDim S12x768x5120 ![0, 1, 2] bcast_S1x1x5120_S12x768x5120_0_1_2 (broadcastInDim S1x1x5120 ![2] bcast_S5120_S1x1x5120_2 ws) (ix3 a b n) = ws (ix1 n) := by
    rw [broadcastInDim_apply _ _ _ _ (ix3 (0 : Fin 1) (0 : Fin 1) n) (by
      intro q
      match q with
      | ⟨0, _⟩ => rfl
      | ⟨1, _⟩ => rfl
      | ⟨2, _⟩ => rfl)]
    rw [broadcastInDim_apply _ _ _ _ (ix1 n) (by
      intro q
      match q with
      | ⟨0, _⟩ => rfl)]
  unfold outArr
  rw [truncf_apply, mulf_apply, mulf_apply, addf_apply, hd, hd, bcast_token, hw]
  unfold outOf
  have hq : ∀ j : Fin 5120, (sitofp .bf16 (extsi 32 q natLt_8_32) : FVec Ideal S12x768x5120 .bf16) (ix3 a b j) = (((q (ix3 a b j)).toInt : ℝ) : EReal) := by
    intro j
    show ((((q (ix3 a b j)).signExtend 32).toInt : ℝ) : EReal) = _
    rw [BitVec.toInt_signExtend_of_le (by norm_num)]
  have h0 : ∀ k : Fin 2560, extractStridedSlice S12x768x2560 ![0, 0, 0] (sitofp .bf16 (extsi 32 q natLt_8_32) : FVec Ideal S12x768x5120 .bf16) slices_S12x768x5120_S12x768x2560_0_0_0 (ix3 a b k)
      = (((q (ix3 a b ⟨k.val, by omega⟩)).toInt : ℝ) : EReal) := by
    intro k
    rw [extractStridedSlice_apply _ _ _ _ (ix3 a b (⟨k.val, by omega⟩ : Fin 5120)) (by
      intro q
      match q with
      | ⟨0, _⟩ => exact (Nat.zero_add _).symm
      | ⟨1, _⟩ => exact (Nat.zero_add _).symm
      | ⟨2, _⟩ => exact (Nat.zero_add _).symm)]
    exact hq _
  have h1 : ∀ k : Fin 2560, extractStridedSlice S12x768x2560 ![0, 0, 2560] (sitofp .bf16 (extsi 32 q natLt_8_32) : FVec Ideal S12x768x5120 .bf16) slices_S12x768x5120_S12x768x2560_0_0_2560 (ix3 a b k)
      = (((q (ix3 a b ⟨2560 + k.val, by omega⟩)).toInt : ℝ) : EReal) := by
    intro k
    rw [extractStridedSlice_apply _ _ _ _ (ix3 a b (⟨2560 + k.val, by omega⟩ : Fin 5120)) (by
      intro q
      match q with
      | ⟨0, _⟩ => exact (Nat.zero_add _).symm
      | ⟨1, _⟩ => exact (Nat.zero_add _).symm
      | ⟨2, _⟩ => rfl)]
    exact hq _
  have hlo : ∀ k : Fin 2560, loArr P (ix2 n k) = wLo (P (ix2 n k)) := fun k => rfl
  have hhi : ∀ k : Fin 2560, hiArr P (ix2 n k) = wHi (P (ix2 n k)) := by
    intro k; unfold hiArr; rw [hostShrsi_eq_shrsi]; rfl
  simp only [h0, h1, hlo, hhi]

end Cert.Hand.Ref

end
-- ==== Proof.KernelValue.lean ====
/-
  The kernel's three results over the ideal values, read at an index through the reshapes around the two pallas_calls,
  are the reference's.
-/
module

public import proofs.«01_k».proof.Proof.Arrays
public import proofs.«01_k».proof.Proof.Whole
public import proofs.«01_k».proof.Proof.RefValue
public import Idealize.ShloMosaic.Lib.StableHlo.RunRead

@[expose] public section

set_option maxRecDepth 8192
set_option maxHeartbeats 4000000

noncomputable section

namespace Cert.Hand

open Cert.KernelIdeal Cert.KernelIdeal.Gen
open Idealize.ShloMosaic hiding ix1 ix2 ix3
open Idealize.ShloMosaic.TcCoe Idealize.ShloMosaic.ValueIdx Idealize.ShloMosaic.StableHlo

variable (m : (ℓ : Loc nD τ sig) → Buf (Elt Ideal) ℓ) (c : Dev nD)

/-- The launch's arguments. -/
abbrev aX : Vec Ideal S12x768x5120 .bf16 := m ((c.tc : Thread nD τ).loc main_arg0)
abbrev aP : Vec Ideal S5120x2560 .i8 := m ((c.tc : Thread nD τ).loc main_arg1)
abbrev aW : Vec Ideal S5120 .f32 := m ((c.tc : Thread nD τ).loc main_arg2)

theorem V1_x : V1 m c main_v0 = shapeCast S9216x5120 (aX m c) shapeCasts_S12x768x5120_S9216x5120 := by
  show StableHlo.after hostOps0 (V0 m c) main_v0 = _
  after_reads_simp
  rfl
theorem V3_ws : V3 m (outs m) c main_v2 = shapeCast S1x5120 (aW m c) shapeCasts_S5120_S1x5120 := by
  show StableHlo.after hostOps1 (V2 m (outs m) c) main_v2 = _
  have h : V2 m (outs m) c main_arg2 = aW m c := (V2_of m (outs m) c main_arg2 (by decide)).trans ((V1_of m c main_arg2 (by decide)).trans rfl)
  rw [← h]
  after_reads_simp
  rfl
theorem V5_v4 : V5 m (outs m) c main_v4 = shapeCast S12x768x5120 (V4 m (outs m) c main_v3 : Vec Ideal S9216x5120 .bf16) shapeCasts_S9216x5120_S12x768x5120 := by
  show StableHlo.after hostOps2 (V4 m (outs m) c) main_v4 = _
  after_reads_simp
  rfl
theorem V5_v5 : V5 m (outs m) c main_v5 = shapeCast S12x768x5120 (V4 m (outs m) c main_v1_0 : Vec Ideal S9216x5120 .i8) shapeCasts_S9216x5120_S12x768x5120 := by
  show StableHlo.after hostOps2 (V4 m (outs m) c) main_v5 = _
  after_reads_simp
  rfl
theorem V5_v6 : V5 m (outs m) c main_v6 = shapeCast S12x768 (V4 m (outs m) c main_v1_1 : Vec Ideal S9216x1 .f32) shapeCasts_S9216x1_S12x768 := by
  show StableHlo.after hostOps2 (V4 m (outs m) c) main_v6 = _
  after_reads_simp
  rfl

/-- A token's row among all tokens. -/
abbrev tok (a : Fin 12) (b : Fin 768) : Fin 9216 := ⟨a.val * 768 + b.val, by omega⟩
/-- A token's activations. -/
abbrev rowK (a : Fin 12) (b : Fin 768) : Fin 5120 → EReal := fun j => aX m c (ix3 a b j)

theorem row_tok (a : Fin 12) (b : Fin 768) : rowOf (xArr (V1 m c)) (tok a b) = rowK m c a b := by
  funext j
  show V1 m c main_v0 (ix2 (tok a b) j) = _
  rw [V1_x]
  exact shapeCast_apply _ _ _ (ix3 a b j) (by rw [Shape.rowMajor_val_three, Shape.rowMajor_val_two]; rfl)

theorem V4_codes : V4 m (outs m) c main_v1_0 = ((fun i => codeK (rowOf (xArr (V1 m c)) (i 0)) (i 1).val) : Vec Ideal S9216x5120 .i8) :=
  (V4_of m (outs m) c main_v1_0 (by decide)).trans <| (V3_of m (outs m) c main_v1_0 (by decide)).trans <| (V2_v1_0 m c).trans (codes_arr c (V1 m c))
theorem V4_scales : V4 m (outs m) c main_v1_1 = ((fun i => scaleK (rowOf (xArr (V1 m c)) (i 0))) : Vec Ideal S9216x1 .f32) :=
  (V4_of m (outs m) c main_v1_1 (by decide)).trans <| (V3_of m (outs m) c main_v1_1 (by decide)).trans <| (V2_v1_1 m c).trans (scales_arr c (V1 m c))
theorem V3_codes : qArr (V3 m (outs m) c) = ((fun i => codeK (rowOf (xArr (V1 m c)) (i 0)) (i 1).val) : Vec Ideal S9216x5120 .i8) :=
  (V3_of m (outs m) c main_v1_0 (by decide)).trans <| (V2_v1_0 m c).trans (codes_arr c (V1 m c))
theorem V3_scales : sArr (V3 m (outs m) c) = ((fun i => scaleK (rowOf (xArr (V1 m c)) (i 0))) : Vec Ideal S9216x1 .f32) :=
  (V3_of m (outs m) c main_v1_1 (by decide)).trans <| (V2_v1_1 m c).trans (scales_arr c (V1 m c))
theorem V3_p : pArr (V3 m (outs m) c) = aP m c :=
  (V3_of m (outs m) c main_arg1 (by decide)).trans <| (V2_of m (outs m) c main_arg1 (by decide)).trans <| (V1_of m c main_arg1 (by decide)).trans rfl

/-- A code of the kernel. -/
theorem codes_tok (a : Fin 12) (b : Fin 768) (j : Fin 5120) :
    (V5 m (outs m) c main_v5 : Vec Ideal S12x768x5120 .i8) (ix3 a b j) = codeK (rowK m c a b) j.val := by
  rw [V5_v5, V4_codes, ← row_tok]
  exact shapeCast_apply _ _ _ (ix2 (tok a b) j) (by rw [Shape.rowMajor_val_three, Shape.rowMajor_val_two]; rfl)

/-- A scale of the kernel. -/
theorem scales_tok (a : Fin 12) (b : Fin 768) :
    (V5 m (outs m) c main_v6 : Vec Ideal S12x768 .f32) (ix2 a b) = scaleK (rowK m c a b) := by
  rw [V5_v6, V4_scales, ← row_tok]
  exact shapeCast_apply _ _ _ (ix2 (tok a b) (0 : Fin 1)) (by
    rw [Shape.rowMajor_val_two, Shape.rowMajor_val_two]
    show (a.val * 768 + b.val) * 1 + 0 = a.val * 768 + b.val
    omega)

/-- An element of the kernel's projection. -/
theorem out_tok (a : Fin 12) (b : Fin 768) (n : Fin 5120) :
    (V5 m (outs m) c main_v4 : Vec Ideal S12x768x5120 .bf16) (ix3 a b n)
      = outOf (fun k => codeK (rowK m c a b) k.val) (scaleK (rowK m c a b)) (fun k => aP m c (ix2 n k)) (aW m c (ix1 n)) := by
  have hw : wsArr (V3 m (outs m) c) (ix2 (0 : Fin 1) n) = aW m c (ix1 n) := by
    show V3 m (outs m) c main_v2 (ix2 (0 : Fin 1) n) = _
    rw [V3_ws]
    exact shapeCast_apply _ _ _ (ix1 n) (by
      rw [Shape.rowMajor_val_one, Shape.rowMajor_val_two]
      show n.val = 0 * 5120 + n.val
      omega)
  have ho := (V4_v3 m c).trans (out_arr c (V3 m (outs m) c))
  rw [V5_v4, ho]
  refine (shapeCast_apply _ _ _ (ix2 (tok a b) n) (by rw [Shape.rowMajor_val_three, Shape.rowMajor_val_two]; rfl)).trans ?_
  show outK (qArr (V3 m (outs m) c)) (sArr (V3 m (outs m) c)) (pArr (V3 m (outs m) c)) (wsArr (V3 m (outs m) c)) (tok a b) n = _
  unfold outK
  rw [hw, V3_codes, V3_scales, V3_p, ← row_tok]

/-! ## The results are the reference's -/

theorem scaleK_eq (r : Fin 5120 → EReal) : scaleK r = scaleOf (amaxOf (zR r)) := by unfold scaleK; rw [amax_eq]

theorem codeK_eq (r : Fin 5120 → EReal) (j : Fin 5120) :
    codeK r j.val = Ideal.fptosi 8 (clipOf (scaleOf (amaxOf (zR r))) (zR r (j.val / 128) (j.val % 128))) := by
  have := j.isLt
  unfold codeK scaleK
  rw [clip_eq r _ _ (by omega) (by omega)]

theorem res_codes : (V5 m (outs m) c main_v5 : Vec Ideal S12x768x5120 .i8) = Ref.codeArr (aX m c) := by
  funext i
  obtain ⟨a, b, j, rfl⟩ : ∃ (a : Fin 12) (b : Fin 768) (j : Fin 5120), i = ix3 a b j := ⟨i 0, i 1, i 2, ValueIdx.eq_ix3 i⟩
  rw [codes_tok, codeK_eq]
  exact (Ref.codeArr_apply (aX m c) a b j).symm

theorem res_scales : (V5 m (outs m) c main_v6 : Vec Ideal S12x768 .f32) = Ref.scaleArr (aX m c) := by
  funext i
  obtain ⟨a, b, rfl⟩ : ∃ (a : Fin 12) (b : Fin 768), i = ix2 a b := ⟨i 0, i 1, ValueIdx.eq_ix2 i⟩
  rw [scales_tok, scaleK_eq]
  exact (Ref.scaleArr_apply (aX m c) a b).symm

theorem res_out : (V5 m (outs m) c main_v4 : Vec Ideal S12x768x5120 .bf16) = Ref.outArr (Ref.codeArr (aX m c)) (Ref.scaleArr (aX m c)) (aP m c) (aW m c) := by
  funext i
  obtain ⟨a, b, n, rfl⟩ : ∃ (a : Fin 12) (b : Fin 768) (n : Fin 5120), i = ix3 a b n := ⟨i 0, i 1, i 2, ValueIdx.eq_ix3 i⟩
  refine (out_tok m c a b n).trans (Eq.trans ?_ (Ref.outArr_apply (Ref.codeArr (aX m c)) (Ref.scaleArr (aX m c)) (aP m c) (aW m c) a b n).symm)
  have e0 : (fun k : Fin 5120 => codeK (rowK m c a b) k.val) = fun k => Ref.codeArr (aX m c) (ix3 a b k) :=
    funext fun k => (codeK_eq _ k).trans (Ref.codeArr_apply (aX m c) a b k).symm
  have e1 : scaleK (rowK m c a b) = Ref.scaleArr (aX m c) (ix2 a b) := (scaleK_eq _).trans (Ref.scaleArr_apply (aX m c) a b).symm
  exact congr (congr (congr (congrArg outOf e0) e1) rfl) rfl

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Twin
public import proofs.«01_k».proof.Proof.Whole
public import proofs.«01_k».proof.Proof.KernelValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel at machine floats: its text is the idealized program's, whose run is proved at every interpretation. -/
theorem frame_p : Cert.quiescent_Kernel := fun m g _ => by
  rw [Cert.Hand.defs_eq, Cert.Hand.main_eq]
  exact (θ_run _ _ _).mono (fun _ h => ⟨fun c => (h.1 c).1, h.2⟩) (Cert.Hand.run_main (F := Bits) m g)

/-- The same run at the extended reals. -/
theorem frame_pi : Cert.quiescent_KernelIdeal := fun m g _ =>
  (θ_run _ _ _).mono (fun _ h => ⟨fun c => (h.1 c).1, h.2⟩) (Cert.Hand.run_main (F := Ideal) m g)

/-- The reference's run; it declares no semaphore. -/
theorem frame_ri : Cert.quiescent_ReferenceIdeal := fun m g _ =>
  (θ_run _ _ _).mono (fun r h => ⟨fun c => (h c).2.2.2, sem_eq_zero_of_no_sems (by decide) r.2⟩)
    (Cert.ReferenceIdeal.Value.run (F := Ideal) m g)

/-- Over the extended reals the kernel's three results are the reference's. -/
theorem algebraic : Cert.algebraic_KernelIdeal_ReferenceIdeal := fun m g m' g' _ ha => by
  refine ⟨fun c => Cert.KernelIdeal.Gen.V5 m (Cert.Hand.outs m) c Cert.KernelIdeal.main_v4,
    fun c => Cert.KernelIdeal.Gen.V5 m (Cert.Hand.outs m) c Cert.KernelIdeal.main_v5,
    fun c => Cert.KernelIdeal.Gen.V5 m (Cert.Hand.outs m) c Cert.KernelIdeal.main_v6, ?_, ?_⟩
  · exact (θ_run _ _ _).mono (fun _ h c => ⟨(h.1 c).2.1, (h.1 c).2.2.1, (h.1 c).2.2.2, (h.1 c).1⟩)
      (Cert.Hand.run_main (F := Ideal) m g)
  · refine (θ_run _ _ _).mono (fun _ h c => ?_) (Cert.Hand.Ref.run m' g')
    obtain ⟨h0, h1, h2, hargs⟩ := h c
    obtain ⟨a0, a1, a2⟩ := ha c
    rw [a0, a1, a2] at h0
    rw [a0] at h1 h2
    exact ⟨h0.trans (Cert.Hand.res_out m c).symm, h1.trans (Cert.Hand.res_codes m c).symm, h2.trans (Cert.Hand.res_scales m c).symm, hargs⟩

theorem claim : Cert.Claim := ⟨Cert.Kernel.Gen.facts, Cert.KernelIdeal.Gen.facts, Cert.ReferenceIdeal.Gen.facts,
  frame_p, frame_pi, frame_ri, trivial, algebraic⟩

end Cert.Proof

end
